-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S1x2048x1024 : Shape := ⟨3, ![1, 2048, 1024]⟩
abbrev S8x1024 : Shape := ⟨2, ![8, 1024]⟩
abbrev S8x4096x1024 : Shape := ⟨3, ![8, 4096, 1024]⟩
abbrev S8x1024x4096 : Shape := ⟨3, ![8, 1024, 4096]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S1x2048x1024 .f32) (main_arg1 : FVec F S8x1024 .f32) (main_arg2 : FVec F S8x4096x1024 .f32) (main_arg3 : FVec F S8x4096x1024 .f32) (main_arg4 : FVec F S8x1024x4096 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Kernel.lean ====
abbrev S1x2048x1024 : Shape := ⟨3, ![1, 2048, 1024]⟩
abbrev S8x1024 : Shape := ⟨2, ![8, 1024]⟩
abbrev S8x4096x1024 : Shape := ⟨3, ![8, 4096, 1024]⟩
abbrev S8x1024x4096 : Shape := ⟨3, ![8, 1024, 4096]⟩
abbrev S2048x1024 : Shape := ⟨2, ![2048, 1024]⟩
abbrev S1x1 : Shape := ⟨2, ![1, 1]⟩
abbrev S_ : Shape := ⟨0, ![]⟩
abbrev S1x1024x1024 : Shape := ⟨3, ![1, 1024, 1024]⟩
abbrev S2x2048 : Shape := ⟨2, ![2, 2048]⟩
abbrev S2048x8 : Shape := ⟨2, ![2048, 8]⟩
abbrev S320x1024 : Shape := ⟨2, ![320, 1024]⟩
abbrev S2048 : Shape := ⟨1, ![2048]⟩
abbrev S2048x1 : Shape := ⟨2, ![2048, 1]⟩
abbrev S8 : Shape := ⟨1, ![8]⟩
abbrev S1x8 : Shape := ⟨2, ![1, 8]⟩
abbrev S1 : Shape := ⟨1, ![1]⟩
abbrev S512x512 : Shape := ⟨2, ![512, 512]⟩
abbrev S512x8 : Shape := ⟨2, ![512, 8]⟩
abbrev S1x2048 : Shape := ⟨2, ![1, 2048]⟩
abbrev S320x2048 : Shape := ⟨2, ![320, 2048]⟩
abbrev S1024x1024 : Shape := ⟨2, ![1024, 1024]⟩
abbrev S2048x320 : Shape := ⟨2, ![2048, 320]⟩

abbrev nBuf : Space → Nat
  | .hbm => 10
  | .vmem => 14
  | .smem => 0
  | _ => 0

abbrev bufTy : (tb : Table) → Fin (tcTables nBuf tb) → BufTy
  | .hbm, ⟨0, _⟩ => ⟨S1x2048x1024, .f32⟩
  | .hbm, ⟨1, _⟩ => ⟨S8x1024, .f32⟩
  | .hbm, ⟨2, _⟩ => ⟨S8x4096x1024, .f32⟩
  | .hbm, ⟨3, _⟩ => ⟨S8x4096x1024, .f32⟩
  | .hbm, ⟨4, _⟩ => ⟨S8x1024x4096, .f32⟩
  | .hbm, ⟨5, _⟩ => ⟨S2048x1024, .f32⟩
  | .hbm, ⟨6, _⟩ => ⟨S2048x1024, .f32⟩
  | .hbm, ⟨7, _⟩ => ⟨S1x1, .f32⟩
  | .hbm, ⟨8, _⟩ => ⟨S1x2048x1024, .f32⟩
  | .hbm, ⟨9, _⟩ => ⟨S_, .f32⟩
  | .local _ .vmem, ⟨0, _⟩ => ⟨S2048x1024, .f32⟩
  | .local _ .vmem, ⟨1, _⟩ => ⟨S8x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S2048x1024, .f32⟩
  | .local _ .vmem, ⟨9, _⟩ => ⟨S1x1, .f32⟩
  | .local _ .vmem, ⟨10, _⟩ => ⟨S2x2048, .f32⟩
  | .local _ .vmem, ⟨11, _⟩ => ⟨S2048x8, .f32⟩
  | .local _ .vmem, ⟨12, _⟩ => ⟨S320x1024, .f32⟩
  | .local _ .vmem, ⟨13, _⟩ => ⟨S320x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1_0 : Ref sig .tc := ⟨.hbm, 6, rfl⟩
abbrev main_call0_v1_1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 4], ![false, false]⟩

def k0_cond5 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_20 : BitVec 32 := 0#32
  let v35 : BitVec 1 := Scalar.cmpi .ne v34 c0_i32_20
  v35

def k0_cond6 (i : grid0.Coords) : BitVec 1 :=
  let arg0 : BitVec 32 := BitVec.ofNat 32 (i 0).val
  let c0_i32_29 : BitVec 32 := 0#32
  let v63 : BitVec 1 := Scalar.cmpi .eq arg0 c0_i32_29
  let v64 : BitVec 32 := Scalar.extui v63
  let c0_i32_30 : BitVec 32 := 0#32
  let v65 : BitVec 1 := Scalar.cmpi .ne v64 c0_i32_30
  v65

def k0_cond7 (i : grid0.Coords) : BitVec 1 :=
  let arg0 : BitVec 32 := BitVec.ofNat 32 (i 0).val
  let c0_i32_31 : BitVec 32 := 0#32
  let v66 : BitVec 1 := Scalar.cmpi .sgt arg0 c0_i32_31
  let v67 : BitVec 32 := Scalar.extui v66
  let c0_i32_32 : BitVec 32 := 0#32
  let v68 : BitVec 1 := Scalar.cmpi .ne v67 c0_i32_32
  v68

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S1x2048x1024 : Shape := ⟨3, ![1, 2048, 1024]⟩
abbrev S8x1024 : Shape := ⟨2, ![8, 1024]⟩
abbrev S8x4096x1024 : Shape := ⟨3, ![8, 4096, 1024]⟩
abbrev S8x1024x4096 : Shape := ⟨3, ![8, 1024, 4096]⟩
abbrev S2048x1024 : Shape := ⟨2, ![2048, 1024]⟩
abbrev S1024x8 : Shape := ⟨2, ![1024, 8]⟩
abbrev S2048x8 : Shape := ⟨2, ![2048, 8]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S8 : Shape := ⟨1, ![8]⟩
abbrev S2048x2x1 : Shape := ⟨3, ![2048, 2, 1]⟩
abbrev S1x1x8 : Shape := ⟨3, ![1, 1, 8]⟩
abbrev S2048x2x8 : Shape := ⟨3, ![2048, 2, 8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x1 : Shape := ⟨3, ![4096, 1, 1]⟩
abbrev S1 : Shape := ⟨1, ![1]⟩
abbrev S1x1x1 : Shape := ⟨3, ![1, 1, 1]⟩
abbrev S2048x8x4096 : Shape := ⟨3, ![2048, 8, 4096]⟩
abbrev S8x2048x1024 : Shape := ⟨3, ![8, 2048, 1024]⟩
abbrev S2048x2x2 : Shape := ⟨3, ![2048, 2, 2]⟩
abbrev S2048x2x1024 : Shape := ⟨3, ![2048, 2, 1024]⟩

abbrev nBuf : Space → Nat
  | .hbm => 173
  | .vmem => 0
  | .smem => 0
  | _ => 0

abbrev hbmTy0_0 (i : Nat) : BufTy := match i % 128 with
  | 0 => ⟨S1x2048x1024, .f32⟩
  | 1 => ⟨S8x1024, .f32⟩
  | 2 => ⟨S8x4096x1024, .f32⟩
  | 3 => ⟨S8x4096x1024, .f32⟩
  | 4 => ⟨S8x1024x4096, .f32⟩
  | 5 => ⟨S2048x1024, .f32⟩
  | 6 => ⟨S1024x8, .f32⟩
  | 7 => ⟨S2048x8, .f32⟩
  | 8 => ⟨S2048x2, .f32⟩
  | 9 => ⟨S2048x2, .i32⟩
  | 10 => ⟨S_, .f32⟩
  | 11 => ⟨S2048, .f32⟩
  | 12 => ⟨S_, .f32⟩
  | 13 => ⟨S2048, .f32⟩
  | 14 => ⟨S2048, .f32⟩
  | 15 => ⟨S2048x1, .f32⟩
  | 16 => ⟨S2048x2, .f32⟩
  | 17 => ⟨S2048x2, .f32⟩
  | 18 => ⟨S2048x2, .f32⟩
  | 19 => ⟨S_, .f32⟩
  | 20 => ⟨S2048, .f32⟩
  | 21 => ⟨S2048x1, .f32⟩
  | 22 => ⟨S2048x2, .f32⟩
  | 23 => ⟨S2048x2, .f32⟩
  | 24 => ⟨S_, .f32⟩
  | 25 => ⟨S2048, .f32⟩
  | 26 => ⟨S_, .f32⟩
  | 27 => ⟨S2048, .f32⟩
  | 28 => ⟨S2048, .f32⟩
  | 29 => ⟨S2048x1, .f32⟩
  | 30 => ⟨S2048x8, .f32⟩
  | 31 => ⟨S2048x8, .f32⟩
  | 32 => ⟨S2048x8, .f32⟩
  | 33 => ⟨S_, .f32⟩
  | 34 => ⟨S2048, .f32⟩
  | 35 => ⟨S2048x1, .f32⟩
  | 36 => ⟨S2048x8, .f32⟩
  | 37 => ⟨S2048x8, .f32⟩
  | 38 => ⟨S_, .f32⟩
  | 39 => ⟨S8, .f32⟩
  | 40 => ⟨S_, .f32⟩
  | 41 => ⟨S8, .f32⟩
  | 42 => ⟨S8, .f32⟩
  | 43 => ⟨S2048x2x1, .i32⟩
  | 44 => ⟨S1x1x8, .i32⟩
  | 45 => ⟨S2048x2x8, .i32⟩
  | 46 => ⟨S2048x2x8, .i32⟩
  | 47 => ⟨S2048x2x8, .i1⟩
  | 48 => ⟨S2048x2x8, .f32⟩
  | 49 => ⟨S_, .f32⟩
  | 50 => ⟨S2048x8, .f32⟩
  | 51 => ⟨S_, .f32⟩
  | 52 => ⟨S8, .f32⟩
  | 53 => ⟨S_, .f32⟩
  | 54 => ⟨S8, .f32⟩
  | 55 => ⟨S8, .f32⟩
  | 56 => ⟨S8, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S4096, .i32⟩
  | 64 => ⟨S4096x1, .i32⟩
  | 65 => ⟨S1x8, .i32⟩
  | 66 => ⟨S4096x8, .i32⟩
  | 67 => ⟨S4096x8, .i32⟩
  | 68 => ⟨S4096x8, .i1⟩
  | 69 => ⟨S4096x8, .i32⟩
  | 70 => ⟨S_, .i32⟩
  | 71 => ⟨S_, .i32⟩
  | 72 => ⟨S4096x8, .i32⟩
  | 73 => ⟨S_, .i32⟩
  | 74 => ⟨S4096x8, .i32⟩
  | 75 => ⟨S4096x8, .i32⟩
  | 76 => ⟨S4096x1, .i32⟩
  | 77 => ⟨S_, .i32⟩
  | 78 => ⟨S4096x1, .i32⟩
  | 79 => ⟨S4096x1, .i1⟩
  | 80 => ⟨S_, .i32⟩
  | 81 => ⟨S4096x1, .i32⟩
  | 82 => ⟨S4096x1, .i32⟩
  | 83 => ⟨S4096x1, .i32⟩
  | 84 => ⟨S4096x1x1, .i32⟩
  | 85 => ⟨S1, .i32⟩
  | 86 => ⟨S_, .i32⟩
  | 87 => ⟨S4096x1x1, .i32⟩
  | 88 => ⟨S4096x1x1, .i1⟩
  | 89 => ⟨S1x1x1, .i32⟩
  | 90 => ⟨S4096x1x1, .i32⟩
  | 91 => ⟨S4096x1x1, .i1⟩
  | 92 => ⟨S4096x1x1, .i1⟩
  | 93 => ⟨S_, .i1⟩
  | 94 => ⟨S4096x1, .i1⟩
  | 95 => ⟨S4096x1, .i32⟩
  | 96 => ⟨S_, .i32⟩
  | 97 => ⟨S4096x1, .i32⟩
  | 98 => ⟨S4096x1, .i32⟩
  | 99 => ⟨S4096, .i32⟩
  | 100 => ⟨S_, .i32⟩
  | 101 => ⟨S4096, .i32⟩
  | 102 => ⟨S4096, .i1⟩
  | 103 => ⟨S2048x2, .i1⟩
  | 104 => ⟨S2048x2, .f32⟩
  | 105 => ⟨S2048x2, .f32⟩
  | 106 => ⟨S_, .f32⟩
  | 107 => ⟨S2048, .f32⟩
  | 108 => ⟨S2048x1, .f32⟩
  | 109 => ⟨S_, .f32⟩
  | 110 => ⟨S2048x1, .f32⟩
  | 111 => ⟨S2048x1, .f32⟩
  | 112 => ⟨S2048x2, .f32⟩
  | 113 => ⟨S2048x2, .f32⟩
  | 114 => ⟨S2048x2, .i1⟩
  | 115 => ⟨S_, .f32⟩
  | 116 => ⟨S2048x2, .f32⟩
  | 117 => ⟨S2048x2, .f32⟩
  | 118 => ⟨S_, .f32⟩
  | 119 => ⟨S2048x2, .f32⟩
  | 120 => ⟨S2048x2, .i1⟩
  | 121 => ⟨S_, .f32⟩
  | 122 => ⟨S2048x2, .f32⟩
  | 123 => ⟨S2048x2, .f32⟩
  | 124 => ⟨S_, .f32⟩
  | 125 => ⟨S2048x2, .f32⟩
  | 126 => ⟨S2048x2, .i1⟩
  | 127 => ⟨S_, .f32⟩
  | _ => ⟨S1x2048x1024, .f32⟩

abbrev hbmTy0_1 (i : Nat) : BufTy := match i % 128 with
  | 0 => ⟨S2048x2, .f32⟩
  | 1 => ⟨S2048x2, .f32⟩
  | 2 => ⟨S8x1024x4096, .f32⟩
  | 3 => ⟨S2048x8x4096, .f32⟩
  | 4 => ⟨S2048x8x4096, .f32⟩
  | 5 => ⟨S2048x8x4096, .f32⟩
  | 6 => ⟨S_, .f32⟩
  | 7 => ⟨S2048x8x4096, .f32⟩
  | 8 => ⟨S2048x8x4096, .f32⟩
  | 9 => ⟨S_, .f32⟩
  | 10 => ⟨S2048x8x4096, .f32⟩
  | 11 => ⟨S2048x8x4096, .f32⟩
  | 12 => ⟨S2048x8x4096, .f32⟩
  | 13 => ⟨S8x1024x4096, .f32⟩
  | 14 => ⟨S2048x8x4096, .f32⟩
  | 15 => ⟨S2048x8x4096, .f32⟩
  | 16 => ⟨S8x4096x1024, .f32⟩
  | 17 => ⟨S8x2048x1024, .f32⟩
  | 18 => ⟨S2048, .i32⟩
  | 19 => ⟨S2048x1, .i32⟩
  | 20 => ⟨S_, .i32⟩
  | 21 => ⟨S2048x2, .i32⟩
  | 22 => ⟨S2048x2, .i1⟩
  | 23 => ⟨S_, .i32⟩
  | 24 => ⟨S2048x2, .i32⟩
  | 25 => ⟨S2048x2, .i32⟩
  | 26 => ⟨S2048x2, .i32⟩
  | 27 => ⟨S_, .i32⟩
  | 28 => ⟨S2048x1, .i32⟩
  | 29 => ⟨S2048x1, .i1⟩
  | 30 => ⟨S_, .i32⟩
  | 31 => ⟨S2048x1, .i32⟩
  | 32 => ⟨S2048x1, .i32⟩
  | 33 => ⟨S2048x1, .i32⟩
  | 34 => ⟨S2048x2, .i32⟩
  | 35 => ⟨S2048x2x1, .i32⟩
  | 36 => ⟨S2048x2x1, .i32⟩
  | 37 => ⟨S2048x2x2, .i32⟩
  | 38 => ⟨S2048x2x1024, .f32⟩
  | 39 => ⟨S2048x2x1, .f32⟩
  | 40 => ⟨S2048x2x1024, .f32⟩
  | 41 => ⟨S2048x2x1024, .f32⟩
  | 42 => ⟨S_, .f32⟩
  | 43 => ⟨S2048x1024, .f32⟩
  | 44 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_cst_12 : Ref sig .tc := ⟨.hbm, 61, rfl⟩
abbrev main_v36 : Ref sig .tc := ⟨.hbm, 62, rfl⟩
abbrev main_v37 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v38 : Ref sig .tc := ⟨.hbm, 69, rfl⟩
abbrev main_call2_call0_c : Ref sig .tc := ⟨.hbm, 70, rfl⟩
abbrev main_call2_call0_v0 : Ref sig .tc := ⟨.hbm, 71, rfl⟩
abbrev main_v39 : Ref sig .tc := ⟨.hbm, 72, rfl⟩
abbrev main_c : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_c_4 : Ref sig .tc := ⟨.hbm, 96, rfl⟩
abbrev main_call3_v14 : Ref sig .tc := ⟨.hbm, 97, rfl⟩
abbrev main_v43 : Ref sig .tc := ⟨.hbm, 98, rfl⟩
abbrev main_v44 : Ref sig .tc := ⟨.hbm, 99, rfl⟩
abbrev main_c_13 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_cst_14 : Ref sig .tc := ⟨.hbm, 106, rfl⟩
abbrev main_v50 : Ref sig .tc := ⟨.hbm, 107, rfl⟩
abbrev main_v51 : Ref sig .tc := ⟨.hbm, 108, rfl⟩
abbrev main_cst_15 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_call4_v0 : Ref sig .tc := ⟨.hbm, 114, rfl⟩
abbrev main_call4_cst : Ref sig .tc := ⟨.hbm, 115, rfl⟩
abbrev main_call4_call0_v0 : Ref sig .tc := ⟨.hbm, 116, rfl⟩
abbrev main_call4_v1 : Ref sig .tc := ⟨.hbm, 117, rfl⟩
abbrev main_call4_cst_0 : Ref sig .tc := ⟨.hbm, 118, rfl⟩
abbrev main_call4_v2 : Ref sig .tc := ⟨.hbm, 119, rfl⟩
abbrev main_call4_v3 : Ref sig .tc := ⟨.hbm, 120, rfl⟩
abbrev main_call4_cst_1 : Ref sig .tc := ⟨.hbm, 121, rfl⟩
abbrev main_call4_call1_v0 : Ref sig .tc := ⟨.hbm, 122, rfl⟩
abbrev main_call4_v4 : Ref sig .tc := ⟨.hbm, 123, rfl⟩
abbrev main_call4_cst_2 : Ref sig .tc := ⟨.hbm, 124, rfl⟩
abbrev main_call4_v5 : Ref sig .tc := ⟨.hbm, 125, rfl⟩
abbrev main_call4_v6 : Ref sig .tc := ⟨.hbm, 126, rfl⟩
abbrev main_call4_cst_3 : Ref sig .tc := ⟨.hbm, 127, rfl⟩
abbrev main_call4_call2_v0 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_call5_v0 : Ref sig .tc := ⟨.hbm, 132, rfl⟩
abbrev main_call5_v1 : Ref sig .tc := ⟨.hbm, 133, rfl⟩
abbrev main_call5_cst : Ref sig .tc := ⟨.hbm, 134, rfl⟩
abbrev main_call5_v2 : Ref sig .tc := ⟨.hbm, 135, rfl⟩
abbrev main_call5_v3 : Ref sig .tc := ⟨.hbm, 136, rfl⟩
abbrev main_call5_cst_0 : Ref sig .tc := ⟨.hbm, 137, rfl⟩
abbrev main_call5_v4 : Ref sig .tc := ⟨.hbm, 138, rfl⟩
abbrev main_call5_v5 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_c_16 : Ref sig .tc := ⟨.hbm, 148, rfl⟩
abbrev main_v67 : Ref sig .tc := ⟨.hbm, 149, rfl⟩
abbrev main_v68 : Ref sig .tc := ⟨.hbm, 150, rfl⟩
abbrev main_c_17 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_c_18 : Ref sig .tc := ⟨.hbm, 155, rfl⟩
abbrev main_v72 : Ref sig .tc := ⟨.hbm, 156, rfl⟩
abbrev main_v73 : Ref sig .tc := ⟨.hbm, 157, rfl⟩
abbrev main_c_19 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_cst_20 : Ref sig .tc := ⟨.hbm, 170, rfl⟩
abbrev main_v85 : Ref sig .tc := ⟨.hbm, 171, rfl⟩
abbrev main_v86 : Ref sig .tc := ⟨.hbm, 172, rfl⟩

abbrev nD : Nat := 1
abbrev τ : Topo := Topo.v7x

variable {F : FTy → Type} [FloatOps F]
-- ==== Proof.GridPoints.lean ====
/- Where the kernel's grid points stand: the body's branch conditions read off a point's number, the
   points at which an output's buffer is left alone, the staging and scratch buffers, and the launch's invariant
   spelled buffer by buffer. -/
module

public import proofs.«01_k».proof.Proof.Gen.KernelIdeal.Frame
public import proofs.«01_k».proof.Proof.Gen.KernelIdeal.Skeleton

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The point is the first point of all (the router runs). -/
abbrev isFirst (i : grid0.Coords) : Prop := k0_cond1 i = 1#1
theorem isFirst_iff : ∀ t : Fin cfg0.N, isFirst (grid0.coords t) ↔ t.val = 0 :=
  (by decide +kernel : ∀ t : Fin grid0.N, isFirst (grid0.coords t) ↔ t.val = 0)

/-- The point is the first hidden tile of an expert. -/
abbrev isOpen (i : grid0.Coords) : Prop := (Scalar.cmpi .ne (Scalar.extui (Scalar.cmpi .eq (BitVec.ofNat 32 (i 1).val) 0#32)) 0#32) = 1#1
theorem isOpen_iff : ∀ t : Fin cfg0.N, isOpen (grid0.coords t) ↔ t.val % 4 = 0 :=
  (by decide +kernel : ∀ t : Fin grid0.N, isOpen (grid0.coords t) ↔ t.val % 4 = 0)

/-- The point is a later hidden tile of an expert. -/
abbrev isMore (i : grid0.Coords) : Prop := (Scalar.cmpi .ne (Scalar.extui (Scalar.cmpi .sgt (BitVec.ofNat 32 (i 1).val) 0#32)) 0#32) = 1#1
theorem isMore_iff : ∀ t : Fin cfg0.N, isMore (grid0.coords t) ↔ 1 ≤ t.val % 4 :=
  (by decide +kernel : ∀ t : Fin grid0.N, isMore (grid0.coords t) ↔ 1 ≤ t.val % 4)

/-- The point is the last hidden tile of an expert. -/
abbrev isLast (i : grid0.Coords) : Prop := k0_cond5 i = 1#1
theorem isLast_iff : ∀ t : Fin cfg0.N, isLast (grid0.coords t) ↔ t.val % 4 = 3 :=
  (by decide +kernel : ∀ t : Fin grid0.N, isLast (grid0.coords t) ↔ t.val % 4 = 3)

/-- The point is the first expert. -/
abbrev isExpert0 (i : grid0.Coords) : Prop := k0_cond6 i = 1#1
theorem isExpert0_iff : ∀ t : Fin cfg0.N, isExpert0 (grid0.coords t) ↔ t.val < 4 :=
  (by decide +kernel : ∀ t : Fin grid0.N, isExpert0 (grid0.coords t) ↔ t.val < 4)

/-- The point is a later expert. -/
abbrev isLater (i : grid0.Coords) : Prop := k0_cond7 i = 1#1
theorem isLater_iff : ∀ t : Fin cfg0.N, isLater (grid0.coords t) ↔ 4 ≤ t.val :=
  (by decide +kernel : ∀ t : Fin grid0.N, isLater (grid0.coords t) ↔ 4 ≤ t.val)

/-- Window 5 (the combined output) is left alone except at an expert's last tile. -/
theorem idle5 : ∀ t : Fin cfg0.N, cfg0.idle 5 (grid0.coords t) = !decide (t.val % 4 = 3) :=
  (by decide +kernel : ∀ t : Fin grid0.N, idle0 5 (grid0.coords t) = !decide (t.val % 4 = 3))
/-- Window 6 (the auxiliary loss) is left alone except at the first point. -/
theorem idle6 : ∀ t : Fin cfg0.N, cfg0.idle 6 (grid0.coords t) = !decide (t.val = 0) :=
  (by decide +kernel : ∀ t : Fin grid0.N, idle0 6 (grid0.coords t) = !decide (t.val = 0))
/-- Outputs are never fetched. -/
theorem fetch5 (t : Fin cfg0.N) : (cfg0.win 5).fetch t = false := rfl
theorem fetch6 (t : Fin cfg0.N) : (cfg0.win 6).fetch t = false := rfl

abbrev st0 (t : Fin cfg0.N) : Memref sig .tc .vmem S2048x1024 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S8x1024 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1x1024x1024 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S1x1024x1024 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S1x1024x1024 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S2048x1024 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S1x1 .f32 := win0_6.stage (cfg0.slots t 6)
abbrev hst6 (t : Fin cfg0.N) : (st6 t).IsWhole := hstage0_6 ((cfg0.slots t 6).cast nbuf0_6)
abbrev sc0 : Memref sig .tc .vmem S2x2048 .f32 := Memref.whole cc0_scratch0
abbrev sc1 : Memref sig .tc .vmem S2048x8 .f32 := Memref.whole cc0_scratch1
abbrev sc2 : Memref sig .tc .vmem S320x1024 .f32 := Memref.whole cc0_scratch2
abbrev sc3 : Memref sig .tc .vmem S320x1024 .f32 := Memref.whole cc0_scratch3

/-- The launch's invariant: the four scratch buffers at some contents, the generator register at some state. -/
theorem launch_inv (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.KernelIdeal.Moe

end
-- ==== Proof.Body.lean ====
/- The kernel's body at one grid point: from the blocks and scratch it finds, the scratch and outputs it
   leaves, each as a named function of what it found. -/
module

public import proofs.«01_k».proof.Proof.GridPoints
public import Idealize.ShloMosaic.Lib.VecWindow
public import Idealize.ShloMosaic.Lib.Pipeline.ValueKit.Acc

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.VecWindow (window)

/-! ## What a point leaves -/

/-- Row `0` and row `1` of the slot table. -/
abbrev row0 (r : Vec F S2x2048 .f32) : Vec F S1x2048 .f32 := window r ![0, 0] ![1, 2048] (by decide)
abbrev row1 (r : Vec F S2x2048 .f32) : Vec F S1x2048 .f32 := window r ![1, 0] ![1, 2048] (by decide)
/-- Columns `0` to `3` of the transposed table: the two slots, the two weights. -/
abbrev col0 (q : Vec F S2048x8 .f32) : Vec F S2048x1 .f32 := window q ![0, 0] ![2048, 1] (by decide)
abbrev col1 (q : Vec F S2048x8 .f32) : Vec F S2048x1 .f32 := window q ![0, 1] ![2048, 1] (by decide)
abbrev col2 (q : Vec F S2048x8 .f32) : Vec F S2048x1 .f32 := window q ![0, 2] ![2048, 1] (by decide)
abbrev col3 (q : Vec F S2048x8 .f32) : Vec F S2048x1 .f32 := window q ![0, 3] ![2048, 1] (by decide)

/-- The expert's gathered tokens after a point: gathered anew at the expert's first tile, else kept. -/
def nextXe (i : grid0.Coords) (x0 : Vec F S2048x1024 .f32) (r : Vec F S2x2048 .f32) (xe : Vec F S320x1024 .f32) : Vec F S320x1024 .f32 :=
  open Classical in if isOpen i then k0_pay36 i (row0 r) (row1 r) x0 else xe

/-- The expert's running output after a point: started at the first tile, else added to. -/
def nextYc (i : grid0.Coords) (x2 x3 x4 : Vec F S1x1024x1024 .f32) (xe yc : Vec F S320x1024 .f32) : Vec F S320x1024 .f32 :=
  open Classical in if isOpen i then k0_pay38 xe x2 x3 x4 else k0_pay1 (k0_pay37 xe x2 x3 x4) yc

/-- The combined output after a point: at an expert's last tile set (first expert) or added to. -/
def nextOut (i : grid0.Coords) (q : Vec F S2048x8 .f32) (yc : Vec F S320x1024 .f32) (o : Vec F S2048x1024 .f32) : Vec F S2048x1024 .f32 :=
  open Classical in
  if isLast i then
    if isExpert0 i then k0_pay2 (BitVec.ofNat 32 (i 0).val) (col0 q) (col1 q) (col2 q) (col3 q) yc
    else k0_pay3 (BitVec.ofNat 32 (i 0).val) (col0 q) (col1 q) (col2 q) (col3 q) yc o
  else o

/-! ## The router's products, from the tokens and the gate -/

/-- The one-hot of a token's first and second expert; the counts before each token; the weights; the slots. -/
def oh1 (x : Vec F S2048x1024 .f32) (g : Vec F S8x1024 .f32) : FVec F S2048x8 .f32 := k0_pay7 x g
def oh2 (x : Vec F S2048x1024 .f32) (g : Vec F S8x1024 .f32) : FVec F S2048x8 .f32 := k0_pay11 x g
def before (x : Vec F S2048x1024 .f32) (g : Vec F S8x1024 .f32) : FVec F S2048x8 .f32 := k0_pay15 (oh1 x g) (oh2 x g)
def pos1 (x : Vec F S2048x1024 .f32) (g : Vec F S8x1024 .f32) : FVec F S2048 .f32 := k0_pay16 (oh1 x g) (oh2 x g)
def wn1 (x : Vec F S2048x1024 .f32) (g : Vec F S8x1024 .f32) : FVec F S2048 .f32 :=
  k0_pay25 (k0_pay5 x g) (k0_pay9 x g) (oh2 x g) (before x g) (pos1 x g) (Scalar.ofBits .f32 0x3F800000#32)
def wn2 (x : Vec F S2048x1024 .f32) (g : Vec F S8x1024 .f32) : FVec F S2048 .f32 :=
  k0_pay26 (k0_pay5 x g) (k0_pay9 x g) (oh2 x g) (before x g) (pos1 x g) (Scalar.ofBits .f32 0x3F800000#32)
def slot1 (x : Vec F S2048x1024 .f32) (g : Vec F S8x1024 .f32) : FVec F S2048 .f32 :=
  k0_pay27 (k0_pay6 x g) (pos1 x g) (Scalar.ofBits .f32 0x3F800000#32)
def slot2 (x : Vec F S2048x1024 .f32) (g : Vec F S8x1024 .f32) : FVec F S2048 .f32 :=
  k0_pay28 (k0_pay10 x g) (oh2 x g) (before x g)
/-- The auxiliary loss. -/
def auxK (x : Vec F S2048x1024 .f32) (g : Vec F S8x1024 .f32) : Vec F S1x1 .f32 :=
  k0_pay29 (k0_pay14 (oh1 x g) (oh2 x g) (k0_pay12 x g) (k0_pay13 (F := F)))

/-- The slot table holds the router's slots; the transposed table its slots and weights in columns `0` to `3`. -/
def RowsHold (x : Vec F S2048x1024 .f32) (g : Vec F S8x1024 .f32) (r : Vec F S2x2048 .f32) : Prop :=
  row0 r = k0_pay30 (slot1 x g) ∧ row1 r = k0_pay31 (slot2 x g)
def ColsHold (x : Vec F S2048x1024 .f32) (g : Vec F S8x1024 .f32) (q : Vec F S2048x8 .f32) : Prop :=
  col0 q = k0_pay32 (slot1 x g) ∧ col1 q = k0_pay33 (slot2 x g) ∧ col2 q = k0_pay34 (wn1 x g) ∧ col3 q = k0_pay35 (wn2 x g)

/-! ## Loads and stores of the executor's forms -/

section Reads
variable {sig : RefSig} {κ : Kind} {sp : Space} {S : Shape} {e : EltTy} {Val : EltTy → Type}

theorem load_whole (m : Memref sig κ sp S e) (h : m.IsWhole) (x : S.Idx → Val e) {off : Fin S.rank → ℕ} (inb : ∀ a, off a + S.size a ≤ S.size a) :
    View.readAt Val m.view (Rect.unit off (no_index S.size) inb).toLoadRect (h.unread x) = x :=
  (View.readAt_full m.view _ inb).trans (h.read_unread x)

theorem load_part (m : Memref sig κ sp S e) (h : m.IsWhole) (x : S.Idx → Val e) {off size : Fin S.rank → ℕ} (inb : ∀ a, off a + size a ≤ S.size a) :
    View.readAt Val m.view (Rect.unit off size inb).toLoadRect (h.unread x) = window x off size inb :=
  (View.readAt_unit m.view _ inb rfl inb).trans (by rw [h.read_unread])

theorem load_stored [∀ e, Nonempty (Val e)] (v : View sig κ sp S e) {off off' : Fin S.rank → ℕ} (inb : ∀ a, off a + S.size a ≤ S.size a)
    (inb' : ∀ a, off' a + S.size a ≤ S.size a) (w : S.Idx → Val e) (L : List (View.Piece Val S e)) :
    v.readCov ((⟨Rect.unit off' (no_index S.size) inb', w⟩ : View.Piece Val S e) :: L) (Rect.unit off (no_index S.size) inb).toLoadRect = w :=
  View.readCov_full v inb inb' w L

theorem load_stored' (v : View sig κ sp S e) (f : v.ty.Contents Val) {off off' : Fin S.rank → ℕ} (inb : ∀ a, off a + S.size a ≤ S.size a)
    (inb' : ∀ a, off' a + S.size a ≤ S.size a) (w : S.Idx → Val e) (L : List (View.Piece Val S e)) :
    v.readAt Val (Rect.unit off (no_index S.size) inb).toLoadRect (v.writes Val f ((⟨Rect.unit off' (no_index S.size) inb', w⟩ : View.Piece Val S e) :: L)) = w :=
  View.readAt_writes_full v f inb inb' w L

theorem stored (v : View sig κ sp S e) (f : v.ty.Contents Val) {off : Fin S.rank → ℕ} (inb : ∀ a, off a + S.size a ≤ S.size a)
    (w : S.Idx → Val e) (L : List (View.Piece Val S e)) :
    v.read Val (v.writes Val f ((⟨Rect.unit off (no_index S.size) inb, w⟩ : View.Piece Val S e) :: L)) = w :=
  View.read_writes_full v f inb w L
end Reads

/-! ## The run -/

variable (c : Dev nD) (i : grid0.Coords)
  (arg2 : Memref sig .tc .vmem S2048x1024 .f32) (harg2 : arg2.IsWhole)
  (arg3 : Memref sig .tc .vmem S8x1024 .f32) (harg3 : arg3.IsWhole)
  (arg4 : Memref sig .tc .vmem S1x1024x1024 .f32) (harg4 : arg4.IsWhole)
  (arg5 : Memref sig .tc .vmem S1x1024x1024 .f32) (harg5 : arg5.IsWhole)
  (arg6 : Memref sig .tc .vmem S1x1024x1024 .f32) (harg6 : arg6.IsWhole)
  (arg7 : Memref sig .tc .vmem S2048x1024 .f32) (harg7 : arg7.IsWhole)
  (arg8 : Memref sig .tc .vmem S1x1 .f32) (harg8 : arg8.IsWhole)
  (arg9 : Memref sig .tc .vmem S2x2048 .f32) (harg9 : arg9.IsWhole)
  (arg10 : Memref sig .tc .vmem S2048x8 .f32) (harg10 : arg10.IsWhole)
  (arg11 : Memref sig .tc .vmem S320x1024 .f32) (harg11 : arg11.IsWhole)
  (arg12 : Memref sig .tc .vmem S320x1024 .f32) (harg12 : arg12.IsWhole)

set_option maxHeartbeats 1000000 in
/-- A point after the first: the tables stay as they are, the gathered tokens, the running output and the combined
    output go to their next values. -/
theorem run_later (hc0 : ¬isFirst i) (hm : isMore i ↔ ¬isOpen i) (hl : isLater i ↔ ¬isExpert0 i) (hle : isLast i → ¬isOpen i)
    (x0 : Vec F S2048x1024 .f32) (x1 : Vec F S8x1024 .f32) (x2 x3 x4 : Vec F S1x1024x1024 .f32)
    (o : Vec F S2048x1024 .f32) (a : Vec F S1x1 .f32) (r : Vec F S2x2048 .f32) (q : Vec F S2048x8 .f32) (xe yc : Vec F S320x1024 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare o
        ∗ owns (c : Thread nD τ) arg8 fullShare a
        ∗ owns (c : Thread nD τ) arg9 fullShare r
        ∗ owns (c : Thread nD τ) arg10 fullShare q
        ∗ owns (c : Thread nD τ) arg11 fullShare xe
        ∗ owns (c : Thread nD τ) arg12 fullShare yc
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare (nextOut i q (nextYc i x2 x3 x4 (nextXe i x0 r xe) yc) o)
            ∗ owns (c : Thread nD τ) arg8 fullShare a
            ∗ owns (c : Thread nD τ) arg9 fullShare r
            ∗ owns (c : Thread nD τ) arg10 fullShare q
            ∗ owns (c : Thread nD τ) arg11 fullShare (nextXe i x0 r xe)
            ∗ owns (c : Thread nD τ) arg12 fullShare (nextYc i x2 x3 x4 (nextXe i x0 r xe) yc)) -∗ K ⟨⟩))
      ⊢ wp frame (wpE (defs₀ (F := F)) Variants.none c none) E (cc0__moe_kernel i arg2 harg2 arg3 harg3 arg4 harg4 arg5 harg5 arg6 harg6 arg7 harg7 arg8 harg8 arg9 harg9 arg10 harg10 arg11 harg11 arg12 harg12) K := by
  simp only [cc0__moe_kernel_eq_skeleton]; unfold cc0__moe_kernel_skel
  simp only [k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0; obtain rfl := harg10.eq_unread hfs1
  obtain rfl := harg11.eq_unread hfs2; obtain rfl := harg12.eq_unread hfs3
  unfold nextOut nextYc nextXe
  by_cases h1 : isOpen i
  · have h3 : ¬isMore i := fun h => hm.mp h h1
    have h4 : ¬isLast i := fun h => hle h h1
    simp only [if_pos h1, if_neg h4]
    sl_exec (disch := first | sl_exact hc0 | sl_exact h1 | sl_exact h3 | sl_exact h4)
    sl_step
    iapply Hk
    isplitl [H0]
    · iexists _; isplitr
      swap; · iexact H0
      ipureintro
      exact harg2.read_unread _
    isplitl [H1]
    · iexists _; isplitr
      swap; · iexact H1
      ipureintro
      exact harg3.read_unread _
    isplitl [H2]
    · iexists _; isplitr
      swap; · iexact H2
      ipureintro
      exact harg4.read_unread _
    isplitl [H3]
    · iexists _; isplitr
      swap; · iexact H3
      ipureintro
      exact harg5.read_unread _
    isplitl [H4]
    · iexists _; isplitr
      swap; · iexact H4
      ipureintro
      exact harg6.read_unread _
    isplitl [H5]
    · iexists _; isplitr
      swap; · iexact H5
      ipureintro
      exact harg7.read_unread _
    isplitl [H6]
    · iexists _; isplitr
      swap; · iexact H6
      ipureintro
      exact harg8.read_unread _
    isplitl [HS0]
    · iexists _; isplitr
      swap; · iexact HS0
      ipureintro
      exact harg9.read_unread _
    isplitl [HS1]
    · iexists _; isplitr
      swap; · iexact HS1
      ipureintro
      exact harg10.read_unread _
    isplitl [HS2]
    · iexists _; isplitr
      swap; · iexact HS2
      ipureintro
      sl_unfold_run_names
      simp only [stored, load_whole, load_stored, load_stored', load_part]
    iexists _; isplitr
    swap; · iexact HS3
    ipureintro
    sl_unfold_run_names
    simp only [stored, load_whole, load_stored, load_stored', load_part]
  · have h3 : isMore i := hm.mpr h1
    by_cases h4 : isLast i
    · by_cases h5 : isExpert0 i
      · have h6 : ¬isLater i := fun h => hl.mp h h5
        simp only [if_neg h1, if_pos h4, if_pos h5]
        sl_exec (disch := first | sl_exact hc0 | sl_exact h1 | sl_exact h3 | sl_exact h4 | sl_exact h5 | sl_exact h6)
        sl_step
        iapply Hk
        isplitl [H0]
        · iexists _; isplitr
          swap; · iexact H0
          ipureintro
          exact harg2.read_unread _
        isplitl [H1]
        · iexists _; isplitr
          swap; · iexact H1
          ipureintro
          exact harg3.read_unread _
        isplitl [H2]
        · iexists _; isplitr
          swap; · iexact H2
          ipureintro
          exact harg4.read_unread _
        isplitl [H3]
        · iexists _; isplitr
          swap; · iexact H3
          ipureintro
          exact harg5.read_unread _
        isplitl [H4]
        · iexists _; isplitr
          swap; · iexact H4
          ipureintro
          exact harg6.read_unread _
        isplitl [H5]
        · iexists _; isplitr
          swap; · iexact H5
          ipureintro
          sl_unfold_run_names
          simp only [stored, load_whole, load_stored, load_stored', load_part]
        isplitl [H6]
        · iexists _; isplitr
          swap; · iexact H6
          ipureintro
          exact harg8.read_unread _
        isplitl [HS0]
        · iexists _; isplitr
          swap; · iexact HS0
          ipureintro
          exact harg9.read_unread _
        isplitl [HS1]
        · iexists _; isplitr
          swap; · iexact HS1
          ipureintro
          exact harg10.read_unread _
        isplitl [HS2]
        · iexists _; isplitr
          swap; · iexact HS2
          ipureintro
          exact harg11.read_unread _
        iexists _; isplitr
        swap; · iexact HS3
        ipureintro
        sl_unfold_run_names
        simp only [stored, load_whole, load_stored, load_stored', load_part]
      · have h6 : isLater i := hl.mpr h5
        simp only [if_neg h1, if_pos h4, if_neg h5]
        sl_exec (disch := first | sl_exact hc0 | sl_exact h1 | sl_exact h3 | sl_exact h4 | sl_exact h5 | sl_exact h6)
        sl_step
        iapply Hk
        isplitl [H0]
        · iexists _; isplitr
          swap; · iexact H0
          ipureintro
          exact harg2.read_unread _
        isplitl [H1]
        · iexists _; isplitr
          swap; · iexact H1
          ipureintro
          exact harg3.read_unread _
        isplitl [H2]
        · iexists _; isplitr
          swap; · iexact H2
          ipureintro
          exact harg4.read_unread _
        isplitl [H3]
        · iexists _; isplitr
          swap; · iexact H3
          ipureintro
          exact harg5.read_unread _
        isplitl [H4]
        · iexists _; isplitr
          swap; · iexact H4
          ipureintro
          exact harg6.read_unread _
        isplitl [H5]
        · iexists _; isplitr
          swap; · iexact H5
          ipureintro
          sl_unfold_run_names
          simp only [stored, load_whole, load_stored, load_stored', load_part]
        isplitl [H6]
        · iexists _; isplitr
          swap; · iexact H6
          ipureintro
          exact harg8.read_unread _
        isplitl [HS0]
        · iexists _; isplitr
          swap; · iexact HS0
          ipureintro
          exact harg9.read_unread _
        isplitl [HS1]
        · iexists _; isplitr
          swap; · iexact HS1
          ipureintro
          exact harg10.read_unread _
        isplitl [HS2]
        · iexists _; isplitr
          swap; · iexact HS2
          ipureintro
          exact harg11.read_unread _
        iexists _; isplitr
        swap; · iexact HS3
        ipureintro
        sl_unfold_run_names
        simp only [stored, load_whole, load_stored, load_stored', load_part]
    · simp only [if_neg h1, if_neg h4]
      sl_exec (disch := first | sl_exact hc0 | sl_exact h1 | sl_exact h3 | sl_exact h4)
      sl_step
      iapply Hk
      isplitl [H0]
      · iexists _; isplitr
        swap; · iexact H0
        ipureintro
        exact harg2.read_unread _
      isplitl [H1]
      · iexists _; isplitr
        swap; · iexact H1
        ipureintro
        exact harg3.read_unread _
      isplitl [H2]
      · iexists _; isplitr
        swap; · iexact H2
        ipureintro
        exact harg4.read_unread _
      isplitl [H3]
      · iexists _; isplitr
        swap; · iexact H3
        ipureintro
        exact harg5.read_unread _
      isplitl [H4]
      · iexists _; isplitr
        swap; · iexact H4
        ipureintro
        exact harg6.read_unread _
      isplitl [H5]
      · iexists _; isplitr
        swap; · iexact H5
        ipureintro
        exact harg7.read_unread _
      isplitl [H6]
      · iexists _; isplitr
        swap; · iexact H6
        ipureintro
        exact harg8.read_unread _
      isplitl [HS0]
      · iexists _; isplitr
        swap; · iexact HS0
        ipureintro
        exact harg9.read_unread _
      isplitl [HS1]
      · iexists _; isplitr
        swap; · iexact HS1
        ipureintro
        exact harg10.read_unread _
      isplitl [HS2]
      · iexists _; isplitr
        swap; · iexact HS2
        ipureintro
        exact harg11.read_unread _
      iexists _; isplitr
      swap; · iexact HS3
      ipureintro
      sl_unfold_run_names
      simp only [stored, load_whole, load_stored, load_stored', load_part]

end Cert.KernelIdeal.Moe

end
-- ==== Proof.BodyFirst.lean ====
/- The kernel's body at the first grid point: the router's tables and the auxiliary loss. -/
module

public import proofs.«01_k».proof.Proof.Body

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.VecWindow (window)

section Reads
variable {sig : RefSig} {κ : Kind} {sp : Space} {S : Shape} {e : EltTy} {Val : EltTy → Type}

/-- A window at the newest store's own rectangle is its payload; -/
theorem window_hit (v : View sig κ sp S e) (f : v.ty.Contents Val) {off size : Fin S.rank → ℕ} (inb : ∀ a, off a + size a ≤ S.size a)
    (w : (Rect.unit off size inb).shape.Idx → Val e) (L : List (View.Piece Val S e)) (inb' : ∀ a, off a + size a ≤ S.size a) :
    window (v.read Val (v.writes Val f ((⟨Rect.unit off size inb, w⟩ : View.Piece Val S e) :: L))) off size inb' = w :=
  funext fun y => View.read_writes_cons_emb v f (Rect.unit off size inb) w L y

/-- one apart from it does not see it. -/
theorem window_miss (v : View sig κ sp S e) (f : v.ty.Contents Val) {off size : Fin S.rank → ℕ} (inb : ∀ a, off a + size a ≤ S.size a)
    (w : (Rect.unit off size inb).shape.Idx → Val e) (L : List (View.Piece Val S e)) (off' size' : Fin S.rank → ℕ)
    (inb' : ∀ a, off' a + size' a ≤ S.size a) (h : ∃ a, off' a + size' a ≤ off a ∨ off a + size a ≤ off' a) :
    window (v.read Val (v.writes Val f ((⟨Rect.unit off size inb, w⟩ : View.Piece Val S e) :: L))) off' size' inb'
      = window (v.read Val (v.writes Val f L)) off' size' inb' := by
  obtain ⟨a, h⟩ := h
  funext y
  refine View.read_writes_cons_miss_of_axis v f _ L _ a (off a) (size a) rfl rfl rfl ?_
  have e : ((Rect.unit off' size' inb').emb y a).val = off' a + 1 * (y a).val := rfl
  have := (y a).isLt
  have hs : (Rect.unit off' size' inb').shape.size a = size' a := rfl
  show ((Rect.unit off' size' inb').emb y a).val < off a ∨ off a + size a ≤ ((Rect.unit off' size' inb').emb y a).val
  omega

theorem cov_window [∀ e, Nonempty (Val e)] (v : View sig κ sp S e) (L : List (View.Piece Val S e)) {off size : Fin S.rank → ℕ}
    (inb : ∀ a, off a + size a ≤ S.size a) :
    v.readCov L (Rect.unit off size inb).toLoadRect = window (v.read Val (v.writes Val v.junk L)) off size inb := rfl
end Reads

/-- The slot table after the stores of its two rows. -/
theorem rows_stored (v : View sig .tc .vmem S2x2048 .f32) (f : v.ty.Contents (Elt F)) (p0 p1 : Vec F S1x2048 .f32) :
    window (v.read (Elt F) (v.writes (Elt F) f [⟨Rect.unit ![1, 0] ![1, 2048] inb_S2x2048_S1x2048_1_0, p1⟩,
        ⟨Rect.unit ![0, 0] ![1, 2048] inb_S2x2048_S1x2048_0_0, p0⟩])) ![0, 0] ![1, 2048] inb_S2x2048_S1x2048_0_0 = p0
    ∧ window (v.read (Elt F) (v.writes (Elt F) f [⟨Rect.unit ![1, 0] ![1, 2048] inb_S2x2048_S1x2048_1_0, p1⟩,
        ⟨Rect.unit ![0, 0] ![1, 2048] inb_S2x2048_S1x2048_0_0, p0⟩])) ![1, 0] ![1, 2048] inb_S2x2048_S1x2048_1_0 = p1 :=
  ⟨(window_miss _ _ _ _ _ _ _ _ ⟨0, by decide⟩).trans (window_hit _ _ _ _ _ _), window_hit _ _ _ _ _ _⟩

/-- The first expert's gathered tokens, from the router's slots. -/
def firstXe (i : grid0.Coords) (x0 : Vec F S2048x1024 .f32) (x1 : Vec F S8x1024 .f32) : Vec F S320x1024 .f32 :=
  k0_pay36 i (k0_pay30 (slot1 x0 x1)) (k0_pay31 (slot2 x0 x1)) x0

variable (c : Dev nD) (i : grid0.Coords)
  (arg2 : Memref sig .tc .vmem S2048x1024 .f32) (harg2 : arg2.IsWhole)
  (arg3 : Memref sig .tc .vmem S8x1024 .f32) (harg3 : arg3.IsWhole)
  (arg4 : Memref sig .tc .vmem S1x1024x1024 .f32) (harg4 : arg4.IsWhole)
  (arg5 : Memref sig .tc .vmem S1x1024x1024 .f32) (harg5 : arg5.IsWhole)
  (arg6 : Memref sig .tc .vmem S1x1024x1024 .f32) (harg6 : arg6.IsWhole)
  (arg7 : Memref sig .tc .vmem S2048x1024 .f32) (harg7 : arg7.IsWhole)
  (arg8 : Memref sig .tc .vmem S1x1 .f32) (harg8 : arg8.IsWhole)
  (arg9 : Memref sig .tc .vmem S2x2048 .f32) (harg9 : arg9.IsWhole)
  (arg10 : Memref sig .tc .vmem S2048x8 .f32) (harg10 : arg10.IsWhole)
  (arg11 : Memref sig .tc .vmem S320x1024 .f32) (harg11 : arg11.IsWhole)
  (arg12 : Memref sig .tc .vmem S320x1024 .f32) (harg12 : arg12.IsWhole)

set_option maxHeartbeats 1000000 in
/-- The first point: the router fills both tables and the loss; the first expert's gather and first tile follow. -/
theorem run_first (hc0 : isFirst i) (h1 : isOpen i) (h3 : ¬isMore i) (h4 : ¬isLast i)
    (x0 : Vec F S2048x1024 .f32) (x1 : Vec F S8x1024 .f32) (x2 x3 x4 : Vec F S1x1024x1024 .f32)
    (o : Vec F S2048x1024 .f32) (a : Vec F S1x1 .f32) (r : Vec F S2x2048 .f32) (q : Vec F S2048x8 .f32) (xe yc : Vec F S320x1024 .f32)
    (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare o
        ∗ owns (c : Thread nD τ) arg8 fullShare a
        ∗ owns (c : Thread nD τ) arg9 fullShare r
        ∗ owns (c : Thread nD τ) arg10 fullShare q
        ∗ owns (c : Thread nD τ) arg11 fullShare xe
        ∗ owns (c : Thread nD τ) arg12 fullShare yc
        ∗ (iprop(∃ r' q', ⌜RowsHold x0 x1 r' ∧ ColsHold x0 x1 q'⌝ ∗ owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare o
            ∗ owns (c : Thread nD τ) arg8 fullShare (auxK x0 x1)
            ∗ owns (c : Thread nD τ) arg9 fullShare r'
            ∗ owns (c : Thread nD τ) arg10 fullShare q'
            ∗ owns (c : Thread nD τ) arg11 fullShare (firstXe i x0 x1)
            ∗ owns (c : Thread nD τ) arg12 fullShare (k0_pay38 (firstXe i x0 x1) x2 x3 x4)) -∗ K ⟨⟩))
      ⊢ wp frame (wpE (defs₀ (F := F)) Variants.none c none) E (cc0__moe_kernel i arg2 harg2 arg3 harg3 arg4 harg4 arg5 harg5 arg6 harg6 arg7 harg7 arg8 harg8 arg9 harg9 arg10 harg10 arg11 harg11 arg12 harg12) K := by
  simp only [cc0__moe_kernel_eq_skeleton]; unfold cc0__moe_kernel_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0; obtain rfl := harg10.eq_unread hfs1
  obtain rfl := harg11.eq_unread hfs2; obtain rfl := harg12.eq_unread hfs3
  sl_exec (disch := first | sl_exact hc0 | sl_exact h1 | sl_exact h3 | sl_exact h4)
  sl_step
  iapply Hk
  iexists (View.read (Elt F) arg9.view (arg9.view.writes (Elt F) (harg9.unread r)
    [⟨Rect.unit ![1, 0] S1x2048.size inb_S2x2048_S1x2048_1_0, k0_pay31 (slot2 x0 x1)⟩,
      ⟨Rect.unit ![0, 0] S1x2048.size inb_S2x2048_S1x2048_0_0, k0_pay30 (slot1 x0 x1)⟩]))
  iexists (View.read (Elt F) arg10.view (arg10.view.writes (Elt F) (harg10.unread q)
    [⟨Rect.unit ![0, 3] S2048x1.size inb_S2048x8_S2048x1_0_3, k0_pay35 (wn2 x0 x1)⟩,
      ⟨Rect.unit ![0, 2] S2048x1.size inb_S2048x8_S2048x1_0_2, k0_pay34 (wn1 x0 x1)⟩,
      ⟨Rect.unit ![0, 1] S2048x1.size inb_S2048x8_S2048x1_0_1, k0_pay33 (slot2 x0 x1)⟩,
      ⟨Rect.unit ![0, 0] S2048x1.size inb_S2048x8_S2048x1_0_0, k0_pay32 (slot1 x0 x1)⟩]))
  isplitr
  · ipureintro
    refine ⟨⟨?_, ?_⟩, ?_, ?_, ?_, ?_⟩
    · exact (rows_stored _ _ _ _).1
    · exact (rows_stored _ _ _ _).2
    · exact (window_miss _ _ _ _ _ _ _ _ ⟨1, by decide⟩).trans ((window_miss _ _ _ _ _ _ _ _ ⟨1, by decide⟩).trans
        ((window_miss _ _ _ _ _ _ _ _ ⟨1, by decide⟩).trans (window_hit _ _ _ _ _ _)))
    · exact (window_miss _ _ _ _ _ _ _ _ ⟨1, by decide⟩).trans ((window_miss _ _ _ _ _ _ _ _ ⟨1, by decide⟩).trans (window_hit _ _ _ _ _ _))
    · exact (window_miss _ _ _ _ _ _ _ _ ⟨1, by decide⟩).trans (window_hit _ _ _ _ _ _)
    · exact window_hit _ _ _ _ _ _
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    sl_unfold_run_names
    simp only [stored, load_whole]
    try rfl
  isplitl [HS0]
  · iexists _; isplitr
    swap; · iexact HS0
    ipureintro
    sl_unfold_run_names
    simp only [stored, load_whole]
    try rfl
  isplitl [HS1]
  · iexists _; isplitr
    swap; · iexact HS1
    ipureintro
    sl_unfold_run_names
    simp only [stored, load_whole]
    try rfl
  isplitl [HS2]
  · iexists _; isplitr
    swap; · iexact HS2
    ipureintro
    sl_unfold_run_names
    simp only [stored, load_whole, load_stored, load_stored']
    simp only [cov_window, (rows_stored _ _ _ _).1, (rows_stored _ _ _ _).2]
    rfl
  · iexists _; isplitr
    swap; · iexact HS3
    ipureintro
    sl_unfold_run_names
    simp only [stored, load_whole, load_stored, load_stored']
    simp only [cov_window, (rows_stored _ _ _ _).1, (rows_stored _ _ _ _).2]
    rfl

end Cert.KernelIdeal.Moe

end
-- ==== Proof.Region.lean ====
/- The kernel's grid run: what every point leaves in the scratch and the outputs, the body's triple at every
   point, the launch, and the frame. -/
module

public import proofs.«01_k».proof.Proof.BodyFirst
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

theorem pts : cfg0.N = 32 := N_0

/-- The first point. -/
abbrev t0 : Fin cfg0.N := ⟨0, by rw [pts]; decide⟩

/-- The tokens and the gate, the same whole arrays at every point. -/
def xv (c : Dev nD) : Vec F S2048x1024 .f32 := iblk m c 0 t0
def gv (c : Dev nD) : Vec F S8x1024 .f32 := iblk m c 1 t0
theorem iblk_x (c : Dev nD) (t : Fin cfg0.N) : iblk m c 0 t = xv m c := rfl
theorem iblk_g (c : Dev nD) (t : Fin cfg0.N) : iblk m c 1 t = gv m c := rfl

/-- The gathered tokens after point `n`: gathered at the expert's first tile, kept over its other tiles. -/
def xeS (c : Dev nD) : (n : ℕ) → n < cfg0.N → Vec F S320x1024 .f32
  | 0, h => firstXe (grid0.coords ⟨0, h⟩) (xv m c) (gv m c)
  | n + 1, h => if (n + 1) % 4 = 0 then firstXe (grid0.coords ⟨n + 1, h⟩) (xv m c) (gv m c) else xeS c n (Nat.lt_of_succ_lt h)

/-- The expert's running output after point `n`: started at its first tile, added to at the others. -/
def ycS (c : Dev nD) : (n : ℕ) → n < cfg0.N → Vec F S320x1024 .f32
  | 0, h => k0_pay38 (xeS m c 0 h) (iblk m c 2 ⟨0, h⟩) (iblk m c 3 ⟨0, h⟩) (iblk m c 4 ⟨0, h⟩)
  | n + 1, h => if (n + 1) % 4 = 0
      then k0_pay38 (xeS m c (n + 1) h) (iblk m c 2 ⟨n + 1, h⟩) (iblk m c 3 ⟨n + 1, h⟩) (iblk m c 4 ⟨n + 1, h⟩)
      else k0_pay1 (k0_pay37 (xeS m c (n + 1) h) (iblk m c 2 ⟨n + 1, h⟩) (iblk m c 3 ⟨n + 1, h⟩) (iblk m c 4 ⟨n + 1, h⟩))
        (ycS c n (Nat.lt_of_succ_lt h))

/-- The first expert's combined output, and a later one's added to what is there. -/
def outFirst (c : Dev nD) (i : grid0.Coords) (y : Vec F S320x1024 .f32) : Vec F S2048x1024 .f32 :=
  k0_pay2 (BitVec.ofNat 32 (i 0).val) (k0_pay32 (slot1 (xv m c) (gv m c))) (k0_pay33 (slot2 (xv m c) (gv m c)))
    (k0_pay34 (wn1 (xv m c) (gv m c))) (k0_pay35 (wn2 (xv m c) (gv m c))) y
def outMore (c : Dev nD) (i : grid0.Coords) (y : Vec F S320x1024 .f32) (o : Vec F S2048x1024 .f32) : Vec F S2048x1024 .f32 :=
  k0_pay3 (BitVec.ofNat 32 (i 0).val) (k0_pay32 (slot1 (xv m c) (gv m c))) (k0_pay33 (slot2 (xv m c) (gv m c)))
    (k0_pay34 (wn1 (xv m c) (gv m c))) (k0_pay35 (wn2 (xv m c) (gv m c))) y o

/-- The combined output after point `n` (from the first expert's last tile on; before that, nothing reads it). -/
def outS (c : Dev nD) : (n : ℕ) → n < cfg0.N → Vec F S2048x1024 .f32
  | 0, h => xv m c
  | n + 1, h => if (n + 1) % 4 = 3 then
      (if n + 1 < 4 then outFirst m c (grid0.coords ⟨n + 1, h⟩) (ycS m c (n + 1) h)
        else outMore m c (grid0.coords ⟨n + 1, h⟩) (ycS m c (n + 1) h) (outS c n (Nat.lt_of_succ_lt h)))
      else outS c n (Nat.lt_of_succ_lt h)

/-! ## The proof data -/

/-- The invariant before point `n`: at the start the launch's; then the tables at the router's products, the
    gathered tokens and the running output at what the point before left. -/
def PhiS (c : Dev nD) : (n : ℕ) → n ≤ cfg0.N → sProp 𝕄
  | 0, _ => Pipeline.ΦA spec0 c
  | n + 1, h => iprop((∃ r q, ⌜RowsHold (xv m c) (gv m c) r ∧ ColsHold (xv m c) (gv m c) q⌝
      ∗ owns (c : Thread nD τ) sc0 fullShare r ∗ owns (c : Thread nD τ) sc1 fullShare q
      ∗ owns (c : Thread nD τ) sc2 fullShare (xeS m c n h) ∗ owns (c : Thread nD τ) sc3 fullShare (ycS m c n h))
      ∗ (∃ g, prngReg c g))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outS m c t.val t.isLt
    | ⟨6, _⟩ => auxK (xv m c) (gv m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_at (c : Dev nD) (t : Fin cfg0.N) : (dats m 0 c).Φ t.castSucc = PhiS m c t.val (Nat.le_of_lt t.isLt) := by
  dsimp only [dats]; exact Pipeline.Dat.Φ_castSucc (PhiS m c) t

theorem left_x (c : Dev nD) (t : Fin cfg0.N) : (dats m 0 c).after 0 t = iblk m c 0 t := by dsimp only [dats]
theorem left_g (c : Dev nD) (t : Fin cfg0.N) : (dats m 0 c).after 1 t = iblk m c 1 t := by dsimp only [dats]
theorem left_w1 (c : Dev nD) (t : Fin cfg0.N) : (dats m 0 c).after 2 t = iblk m c 2 t := by dsimp only [dats]
theorem left_w3 (c : Dev nD) (t : Fin cfg0.N) : (dats m 0 c).after 3 t = iblk m c 3 t := by dsimp only [dats]
theorem left_w2 (c : Dev nD) (t : Fin cfg0.N) : (dats m 0 c).after 4 t = iblk m c 4 t := by dsimp only [dats]
theorem left_out (c : Dev nD) (t : Fin cfg0.N) : (dats m 0 c).after 5 t = outS m c t.val t.isLt := by dsimp only [dats]
theorem left_aux (c : Dev nD) (t : Fin cfg0.N) : (dats m 0 c).after 6 t = auxK (xv m c) (gv m c) := by dsimp only [dats]

theorem found_x (c : Dev nD) (t : Fin cfg0.N) (d) : (dats m 0 c).before 0 t d = xv m c :=
  (before0_0_of m (dats m 0 c) (A_eq m c 0) (left_x m c) t d).trans (iblk_x m c t)
theorem found_g (c : Dev nD) (t : Fin cfg0.N) (d) : (dats m 0 c).before 1 t d = gv m c :=
  (before0_1_of m (dats m 0 c) (A_eq m c 1) (left_g m c) t d).trans (iblk_g m c t)
theorem found_w1 (c : Dev nD) (t : Fin cfg0.N) (d) : (dats m 0 c).before 2 t d = iblk m c 2 t :=
  before0_2_of m (dats m 0 c) (A_eq m c 2) (left_w1 m c) t d
theorem found_w3 (c : Dev nD) (t : Fin cfg0.N) (d) : (dats m 0 c).before 3 t d = iblk m c 3 t :=
  before0_3_of m (dats m 0 c) (A_eq m c 3) (left_w3 m c) t d
theorem found_w2 (c : Dev nD) (t : Fin cfg0.N) (d) : (dats m 0 c).before 4 t d = iblk m c 4 t :=
  before0_4_of m (dats m 0 c) (A_eq m c 4) (left_w2 m c) t d

theorem idle5_false (t : Fin cfg0.N) (h : t.val % 4 = 3) : cfg0.idle 5 (cfg0.grid.coords t) = false :=
  (idle5 t).trans (by rw [h]; rfl)
theorem idle5_true (t : Fin cfg0.N) (h : ¬t.val % 4 = 3) : cfg0.idle 5 (cfg0.grid.coords t) = true :=
  (idle5 t).trans (by simp [h])
theorem idle6_false (t : Fin cfg0.N) (h : t.val = 0) : cfg0.idle 6 (cfg0.grid.coords t) = false :=
  (idle6 t).trans (by simp [h])
theorem idle6_true (t : Fin cfg0.N) (h : ¬t.val = 0) : cfg0.idle 6 (cfg0.grid.coords t) = true :=
  (idle6 t).trans (by simp [h])

theorem outS_succ_idle (c : Dev nD) (n : ℕ) (h : n + 1 < cfg0.N) (h3 : ¬(n + 1) % 4 = 3) :
    outS m c (n + 1) h = outS m c n (Nat.lt_of_succ_lt h) := by rw [outS, if_neg h3]

/-- The combined output's buffer from the second expert on holds what the point before left. -/
theorem found_out (c : Dev nD) (d) : ∀ (n : ℕ) (h : n + 1 < cfg0.N), 4 ≤ n + 1 →
    (dats m 0 c).before 5 ⟨n + 1, h⟩ d = outS m c n (Nat.lt_of_succ_lt h) := by
  intro n
  induction n with
  | zero => intro h h4; omega
  | succ n ih =>
    intro h h4
    have hN := pts
    rw [Dat.before_of_pos _ 5 ⟨n + 1 + 1, h⟩ (by simp) (fetch5 _), if_neg (by
      intro hf; have := (flush0_5 _).mp hf; simp only [Nat.add_sub_cancel] at this; omega)]
    show (dats m 0 c).left 5 ⟨n + 1, Nat.lt_of_succ_lt h⟩ d = _
    unfold Dat.left
    by_cases h3 : (n + 1) % 4 = 3
    · rw [idle5_false ⟨n + 1, Nat.lt_of_succ_lt h⟩ h3]
      exact left_out m c ⟨n + 1, Nat.lt_of_succ_lt h⟩
    · rw [idle5_true ⟨n + 1, Nat.lt_of_succ_lt h⟩ h3, outS_succ_idle m c n _ h3]
      exact ih (Nat.lt_of_succ_lt h) (by omega)

/-- The loss's buffer after the first point holds the loss. -/
theorem found_aux (c : Dev nD) (d) : ∀ (n : ℕ) (h : n + 1 < cfg0.N),
    (dats m 0 c).before 6 ⟨n + 1, h⟩ d = auxK (xv m c) (gv m c) := by
  intro n
  induction n with
  | zero =>
    intro h
    have hN := pts
    rw [Dat.before_of_pos _ 6 ⟨0 + 1, h⟩ (by simp) (fetch6 _), if_neg (by
      intro hf; have := (flush0_6 _).mp hf; simp only [Nat.add_sub_cancel] at this; omega)]
    show (dats m 0 c).left 6 ⟨0, Nat.lt_of_succ_lt h⟩ d = _
    unfold Dat.left
    rw [idle6_false ⟨0, Nat.lt_of_succ_lt h⟩ rfl]
    exact left_aux m c ⟨0, Nat.lt_of_succ_lt h⟩
  | succ n ih =>
    intro h
    have hN := pts
    rw [Dat.before_of_pos _ 6 ⟨n + 1 + 1, h⟩ (by simp) (fetch6 _), if_neg (by
      intro hf; have := (flush0_6 _).mp hf; simp only [Nat.add_sub_cancel] at this; omega)]
    show (dats m 0 c).left 6 ⟨n + 1, Nat.lt_of_succ_lt h⟩ d = _
    unfold Dat.left
    rw [idle6_true ⟨n + 1, Nat.lt_of_succ_lt h⟩ (by simp)]
    exact ih (Nat.lt_of_succ_lt h)

/-! ## The steps the points take -/

theorem nextXe_eq (c : Dev nD) (n : ℕ) (h : n + 1 < cfg0.N) (r : Vec F S2x2048 .f32) (hr : RowsHold (xv m c) (gv m c) r) :
    nextXe (grid0.coords ⟨n + 1, h⟩) (xv m c) r (xeS m c n (Nat.lt_of_succ_lt h)) = xeS m c (n + 1) h := by
  have ho := isOpen_iff ⟨n + 1, h⟩
  unfold nextXe
  rw [xeS]
  by_cases h0 : (n + 1) % 4 = 0
  · rw [if_pos h0, if_pos (ho.mpr h0), hr.1, hr.2]; rfl
  · rw [if_neg h0, if_neg (fun hh => h0 (ho.mp hh))]

theorem nextYc_eq (c : Dev nD) (n : ℕ) (h : n + 1 < cfg0.N) :
    nextYc (grid0.coords ⟨n + 1, h⟩) (iblk m c 2 ⟨n + 1, h⟩) (iblk m c 3 ⟨n + 1, h⟩) (iblk m c 4 ⟨n + 1, h⟩) (xeS m c (n + 1) h)
      (ycS m c n (Nat.lt_of_succ_lt h)) = ycS m c (n + 1) h := by
  have ho := isOpen_iff ⟨n + 1, h⟩
  unfold nextYc
  rw [ycS]
  by_cases h0 : (n + 1) % 4 = 0
  · rw [if_pos h0, if_pos (ho.mpr h0)]
  · rw [if_neg h0, if_neg (fun hh => h0 (ho.mp hh))]

theorem nextOut_last (c : Dev nD) (n : ℕ) (h : n + 1 < cfg0.N) (h3 : (n + 1) % 4 = 3) (q : Vec F S2048x8 .f32)
    (hq : ColsHold (xv m c) (gv m c) q) (o : Vec F S2048x1024 .f32) (ho : 4 ≤ n + 1 → o = outS m c n (Nat.lt_of_succ_lt h)) :
    nextOut (grid0.coords ⟨n + 1, h⟩) q (ycS m c (n + 1) h) o = outS m c (n + 1) h := by
  have hl := isLast_iff ⟨n + 1, h⟩
  have he := isExpert0_iff ⟨n + 1, h⟩
  unfold nextOut
  rw [outS, if_pos h3, if_pos (hl.mpr h3), hq.1, hq.2.1, hq.2.2.1, hq.2.2.2]
  by_cases h4 : n + 1 < 4
  · rw [if_pos h4, if_pos (he.mpr h4)]; rfl
  · rw [if_neg h4, if_neg (fun hh => h4 (he.mp hh)), ho (by omega)]; rfl

theorem nextOut_idle (n : ℕ) (h : n + 1 < cfg0.N) (h3 : ¬(n + 1) % 4 = 3) (q : Vec F S2048x8 .f32) (y : Vec F S320x1024 .f32)
    (o : Vec F S2048x1024 .f32) : nextOut (grid0.coords ⟨n + 1, h⟩) q y o = o := by
  unfold nextOut; rw [if_neg (fun hh => h3 ((isLast_iff ⟨n + 1, h⟩).mp hh))]

/-! ## The body obligation -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_x (c : Dev nD) (t : Fin cfg0.N) : (dats m 0 c).leavesExact 0 t = owns (c : Thread nD τ) (st0 t) fullShare (xv m c) := by
  unfold Dat.leavesExact; rw [show cfg0.idle 0 (cfg0.grid.coords t) = false from rfl, left_x]; rfl
theorem leaves_g (c : Dev nD) (t : Fin cfg0.N) : (dats m 0 c).leavesExact 1 t = owns (c : Thread nD τ) (st1 t) fullShare (gv m c) := by
  unfold Dat.leavesExact; rw [show cfg0.idle 1 (cfg0.grid.coords t) = false from rfl, left_g]; rfl
theorem leaves_w1 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, left_w1]
theorem leaves_w3 (c : Dev nD) (t : Fin cfg0.N) : (dats m 0 c).leavesExact 3 t = owns (c : Thread nD τ) (st3 t) fullShare (iblk m c 3 t) := by
  unfold Dat.leavesExact; rw [show cfg0.idle 3 (cfg0.grid.coords t) = false from rfl, left_w3]
theorem leaves_w2 (c : Dev nD) (t : Fin cfg0.N) : (dats m 0 c).leavesExact 4 t = owns (c : Thread nD τ) (st4 t) fullShare (iblk m c 4 t) := by
  unfold Dat.leavesExact; rw [show cfg0.idle 4 (cfg0.grid.coords t) = false from rfl, left_w2]

theorem leaves_out_live (c : Dev nD) (t : Fin cfg0.N) (h3 : t.val % 4 = 3) :
    (dats m 0 c).leavesExact 5 t = owns (c : Thread nD τ) (st5 t) fullShare (outS m c t.val t.isLt) := by
  unfold Dat.leavesExact; rw [idle5_false t h3, left_out]
theorem leaves_out_idle (c : Dev nD) (t : Fin cfg0.N) (h3 : ¬t.val % 4 = 3) :
    (dats m 0 c).leavesExact 5 t = iprop(∃ d, owns (c : Thread nD τ) (st5 t) fullShare ((dats m 0 c).before 5 t d)) :=
  Dat.leavesExact_idle _ _ _ (idle5_true t h3) (by
    rw [← Bool.not_eq_true]; intro hf; have := (flush0_5 t).mp hf; omega)
/-- The loss's buffer may always be handed back holding the loss after the first point. -/
theorem leaves_aux_first (c : Dev nD) (t : Fin cfg0.N) (h0 : t.val = 0) :
    (dats m 0 c).leavesExact 6 t = owns (c : Thread nD τ) (st6 t) fullShare (auxK (xv m c) (gv m c)) := by
  unfold Dat.leavesExact; rw [idle6_false t h0, left_aux]
theorem leaves_aux_last (c : Dev nD) (t : Fin cfg0.N) (h0 : ¬t.val = 0) (hf : (cfg0.win 6).flush t = true) :
    (dats m 0 c).leavesExact 6 t = owns (c : Thread nD τ) (st6 t) fullShare (auxK (xv m c) (gv m c)) := by
  unfold Dat.leavesExact; rw [idle6_true t h0, hf, left_aux]
theorem leaves_aux_idle (c : Dev nD) (t : Fin cfg0.N) (h0 : ¬t.val = 0) (hf : (cfg0.win 6).flush t = false) :
    (dats m 0 c).leavesExact 6 t = iprop(∃ d, owns (c : Thread nD τ) (st6 t) fullShare ((dats m 0 c).before 6 t d)) :=
  Dat.leavesExact_idle _ _ _ (idle6_true t h0) hf

/-- The loss's buffer holding the loss is what a later point hands back. -/
theorem give_aux (c : Dev nD) (n : ℕ) (h : n + 1 < cfg0.N) :
    owns (c : Thread nD τ) (st6 ⟨n + 1, h⟩) fullShare (auxK (xv m c) (gv m c)) ⊢ ((dats m 0 c).leavesExact 6 ⟨n + 1, h⟩ : sProp 𝕄) := by
  cases hf : (cfg0.win 6).flush ⟨n + 1, h⟩ with
  | true => rw [leaves_aux_last m c ⟨n + 1, h⟩ (by simp) hf]; try exact Idealize.SL.BI.Entails.refl _
  | false =>
    rw [leaves_aux_idle m c ⟨n + 1, h⟩ (by simp) hf]
    iintro H
    iexists (auxK (xv m c) (gv m c))
    rw [found_aux]
    iexact H

set_option maxHeartbeats 2000000 in
/-- The first point. -/
theorem body_first (c : Dev nD) (h : 0 < cfg0.N) :
    bodyPre m c ⟨0, h⟩ ⊢ wp frame (wpE (defs₀ (F := F)) Variants.none c none) Set.univ (bodyAt0 ⟨0, h⟩) (fun _ => bodyPost m c ⟨0, h⟩) := by
  unfold bodyPre bodyPost bodyAt0
  simp only [found_x, found_g, found_w1, found_w3, found_w2]
  rw [show (dats m 0 c).owesAt () (Fin.succ ⟨0, h⟩) = (dats m 0 c).owesAt () (Fin.castSucc ⟨0, h⟩) from rfl,
    show (dats m 0 c).Φ (Fin.succ ⟨0, h⟩) = PhiS m c (0 + 1) h from rfl, Phi_at]
  rw [leaves_x, leaves_g, leaves_w1, leaves_w3, leaves_w2, leaves_out_idle m c ⟨0, h⟩ (show ¬0 % 4 = 3 by decide), leaves_aux_first m c ⟨0, h⟩ rfl]
  rw [show PhiS m c (Fin.val ⟨0, h⟩) (Nat.le_of_lt h) = Pipeline.ΦA spec0 c from rfl, launch_inv]
  simp only [PhiS]
  iintro ⟨⟨⟨⟨%r, HS0⟩, ⟨%q, HS1⟩, ⟨%xe, HS2⟩, ⟨%yc, HS3⟩⟩, Hg⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords ⟨0, h⟩) _ _ _ _ _ _ _ _ _ _ _ _ _ _ _ _ _ _ _ _ _ _ ((isFirst_iff ⟨0, h⟩).mpr rfl)
    ((isOpen_iff ⟨0, h⟩).mpr rfl) (fun hh => absurd ((isMore_iff ⟨0, h⟩).mp hh) (show ¬1 ≤ 0 % 4 by decide))
    (fun hh => absurd ((isLast_iff ⟨0, h⟩).mp hh) (show ¬0 % 4 = 3 by decide)) (xv m c) (gv m c) (iblk m c 2 ⟨0, h⟩) (iblk m c 3 ⟨0, h⟩) (iblk m c 4 ⟨0, h⟩)
    ((dats m 0 c).before 5 ⟨0, h⟩ d5) ((dats m 0 c).before 6 ⟨0, h⟩ d6) r q xe yc)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨%r', %q', %hrq, H0, H1, H2, H3, H4, H5, H6, HS0, HS1, HS2, HS3⟩
  isplitl [HS0 HS1 HS2 HS3 Hg]
  · isplitl [HS0 HS1 HS2 HS3]
    · iexists r'
      iexists q'
      isplitr
      · ipureintro; exact hrq
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists d5; iexact H5
  iexact H6

/-- A later point hands back the combined output's buffer. -/
theorem give_out (c : Dev nD) (n : ℕ) (h : n + 1 < cfg0.N) (q : Vec F S2048x8 .f32) (hq : ColsHold (xv m c) (gv m c) q) (d) :
    owns (c : Thread nD τ) (st5 ⟨n + 1, h⟩) fullShare (nextOut (grid0.coords ⟨n + 1, h⟩) q (ycS m c (n + 1) h) ((dats m 0 c).before 5 ⟨n + 1, h⟩ d))
      ⊢ ((dats m 0 c).leavesExact 5 ⟨n + 1, h⟩ : sProp 𝕄) := by
  by_cases h3 : (n + 1) % 4 = 3
  · rw [leaves_out_live m c ⟨n + 1, h⟩ h3, nextOut_last m c n h h3 q hq _ (found_out m c d n h)]
    try exact Idealize.SL.BI.Entails.refl _
  · rw [leaves_out_idle m c ⟨n + 1, h⟩ h3, nextOut_idle n h h3]
    iintro H
    iexists d
    iexact H

set_option maxHeartbeats 2000000 in
/-- Every later point. -/
theorem body_later (c : Dev nD) (n : ℕ) (h : n + 1 < cfg0.N) :
    bodyPre m c ⟨n + 1, h⟩ ⊢ wp frame (wpE (defs₀ (F := F)) Variants.none c none) Set.univ (bodyAt0 ⟨n + 1, h⟩) (fun _ => bodyPost m c ⟨n + 1, h⟩) := by
  unfold bodyPre bodyPost bodyAt0
  simp only [found_x, found_g, found_w1, found_w3, found_w2, found_aux]
  rw [show (dats m 0 c).owesAt () (Fin.succ ⟨n + 1, h⟩) = (dats m 0 c).owesAt () (Fin.castSucc ⟨n + 1, h⟩) from rfl,
    show (dats m 0 c).Φ (Fin.succ ⟨n + 1, h⟩) = PhiS m c (n + 1 + 1) h from rfl, Phi_at]
  rw [leaves_x, leaves_g, leaves_w1, leaves_w3, leaves_w2]
  rw [show PhiS m c (Fin.val ⟨n + 1, h⟩) (Nat.le_of_lt h) = PhiS m c (n + 1) (Nat.le_of_lt h) from rfl]
  simp only [PhiS]
  iintro ⟨⟨⟨%r, %q, %hrq, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  have hN := pts
  iapply (run_later c (grid0.coords ⟨n + 1, h⟩) _ _ _ _ _ _ _ _ _ _ _ _ _ _ _ _ _ _ _ _ _ _
    (fun hh => absurd ((isFirst_iff ⟨n + 1, h⟩).mp hh) (Nat.succ_ne_zero n))
    ((isMore_iff ⟨n + 1, h⟩).trans ((by omega : (1 ≤ (n + 1) % 4 ↔ ¬(n + 1) % 4 = 0)).trans (not_congr (isOpen_iff ⟨n + 1, h⟩).symm)))
    ((isLater_iff ⟨n + 1, h⟩).trans ((by omega : (4 ≤ n + 1 ↔ ¬n + 1 < 4)).trans (not_congr (isExpert0_iff ⟨n + 1, h⟩).symm)))
    (fun hh ho => by have h3 : (n + 1) % 4 = 3 := (isLast_iff ⟨n + 1, h⟩).mp hh; have h0 : (n + 1) % 4 = 0 := (isOpen_iff ⟨n + 1, h⟩).mp ho; omega)
    (xv m c) (gv m c) (iblk m c 2 ⟨n + 1, h⟩) (iblk m c 3 ⟨n + 1, h⟩) (iblk m c 4 ⟨n + 1, h⟩)
    ((dats m 0 c).before 5 ⟨n + 1, h⟩ d5) (auxK (xv m c) (gv m c)) r q (xeS m c n (Nat.lt_of_succ_lt h)) (ycS m c n (Nat.lt_of_succ_lt h)))
  rw [nextXe_eq m c n h r hrq.1, nextYc_eq m c n h]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · iexists r
      iexists q
      isplitr
      · ipureintro; exact hrq
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (give_out m c n h q hrq.2 d5); iexact H5
  iapply (give_aux m c n h); iexact H6

theorem sound_body (c : Dev nD) : ∀ t : Fin cfg0.N,
    bodyPre m c t ⊢ wp frame (wpE (defs₀ (F := F)) Variants.none c none) Set.univ (bodyAt0 t) (fun _ => bodyPost m c t)
  | ⟨0, h⟩ => body_first m c h
  | ⟨n + 1, h⟩ => body_later m c n h

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (31 + 1) (by rw [pts]) from rfl, launch_inv]
  simp only [PhiS]
  iintro ⟨⟨%r, %q, %hrq, HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The run and the frame -/

set_option backward.isDefEq.respectTransparency.types false in
set_option maxHeartbeats 800000 in
/-- The launch: every run ends, with every buffer as the proof data says and every counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end unchanged and every counter ends at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Moe

end
-- ==== Proof.Same.lean ====
/- The kernel and its reading at the ideal instance are one text: every declaration of one is the other's, so what is
   proved of the second's run at any float values holds of the first's. -/
module

public import proofs.«01_k».proof.Proof.Region
public import proofs.«01_k».proof.Proof.Gen.Kernel

@[expose] public section

set_option maxRecDepth 16384

noncomputable section

namespace Cert.Proof

open Idealize.ShloMosaic Idealize.SL.Sem

variable {F : FTy → Type} [FloatOps F]

theorem sig_same : Cert.Kernel.sig = Cert.KernelIdeal.sig := rfl

theorem labels_same : Cert.Kernel.Λ₀ = Cert.KernelIdeal.Λ₀ := rfl

theorem defs₀_same : Cert.Kernel.defs₀ (F := F) = Cert.KernelIdeal.defs₀ (F := F) := by
  unfold Cert.Kernel.defs₀ Cert.KernelIdeal.defs₀
  congr 1
  funext l a
  match l, a with
  | 0, (t, s) => rfl

theorem defs_same : Cert.Kernel.defs (F := F) = Cert.KernelIdeal.defs (F := F) := by
  unfold Cert.Kernel.defs Cert.KernelIdeal.defs
  exact congrArg _ defs₀_same

theorem main_same : Cert.Kernel.main (F := F) = Cert.KernelIdeal.main (F := F) := rfl

variable (m : (ℓ : Loc Cert.Kernel.nD Cert.Kernel.τ Cert.Kernel.sig) → Buf (Elt F) ℓ) (g : Dev Cert.Kernel.nD → PrngReg)

/-- The kernel's frame: the same program's, at the same values. -/
theorem kernel_frame :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  have h := Cert.KernelIdeal.Moe.frame_quiescent (F := F) m g
  rw [defs_same, main_same]
  exact h

end Cert.Proof

end
-- ==== Proof.KBlocks.lean ====
/- What the kernel's input blocks are: the tokens and the gate whole, and of each weight the expert's tile of hidden rows. -/
module

public import proofs.«01_k».proof.Proof.Region
public import Idealize.ShloMosaic.Lib.Pipeline.ValueKit
public import Idealize.ShloMosaic.Lib.Pointwise

@[expose] public section

set_option maxRecDepth 16384

noncomputable section

namespace Cert.Moe

open Idealize.ShloMosaic Idealize.ShloMosaic.TcCoe Idealize.ShloMosaic.Tactic Cert.KernelIdeal.Gen Cert.KernelIdeal Cert.KernelIdeal.Moe

theorem place_x : ∀ t : Fin cfg0.N, win0_0.index t = ![0, 0] := (by decide +kernel : ∀ t : Fin grid0.N, win0_0.index t = ![0, 0])
theorem place_g : ∀ t : Fin cfg0.N, win0_1.index t = ![0, 0] := (by decide +kernel : ∀ t : Fin grid0.N, win0_1.index t = ![0, 0])
theorem place_w1 : ∀ t : Fin cfg0.N, win0_2.index t = ![t.val / 4, t.val % 4, 0] :=
  (by decide +kernel : ∀ t : Fin grid0.N, win0_2.index t = ![t.val / 4, t.val % 4, 0])
theorem place_w3 : ∀ t : Fin cfg0.N, win0_3.index t = ![t.val / 4, t.val % 4, 0] :=
  (by decide +kernel : ∀ t : Fin grid0.N, win0_3.index t = ![t.val / 4, t.val % 4, 0])
theorem place_w2 : ∀ t : Fin cfg0.N, win0_4.index t = ![t.val / 4, 0, t.val % 4] :=
  (by decide +kernel : ∀ t : Fin grid0.N, win0_4.index t = ![t.val / 4, 0, t.val % 4])
theorem coord_expert : ∀ t : Fin cfg0.N, (grid0.coords t 0).val = t.val / 4 :=
  (by decide +kernel : ∀ t : Fin grid0.N, (grid0.coords t 0).val = t.val / 4)

variable (m : (ℓ : Loc nD τ sig) → Buf (Elt Ideal) ℓ) (c : Dev nD)

theorem lt32 (t : Fin cfg0.N) : t.val < 32 := pts ▸ t.isLt

theorem gv_at (e : Fin 8) (k : Fin 1024) : gv m c (ix2 e k) = m ((c : Thread nD τ).loc main_arg1) (ix2 e k) := by
  unfold gv
  blk_ext [iblk, V, place_g t0]

theorem w1_at (t : Fin cfg0.N) (h k : Fin 1024) : iblk m c 2 t (ix3 0 h k)
    = m ((c : Thread nD τ).loc main_arg2) (ix3 ⟨t.val / 4, by have := lt32 t; omega⟩ ⟨t.val % 4 * 1024 + h.val, by omega⟩ k) := by
  blk_ext [iblk, V, place_w1 t]

theorem w3_at (t : Fin cfg0.N) (h k : Fin 1024) : iblk m c 3 t (ix3 0 h k)
    = m ((c : Thread nD τ).loc main_arg3) (ix3 ⟨t.val / 4, by have := lt32 t; omega⟩ ⟨t.val % 4 * 1024 + h.val, by omega⟩ k) := by
  blk_ext [iblk, V, place_w3 t]

theorem w2_at (t : Fin cfg0.N) (d h : Fin 1024) : iblk m c 4 t (ix3 0 d h)
    = m ((c : Thread nD τ).loc main_arg4) (ix3 ⟨t.val / 4, by have := lt32 t; omega⟩ d ⟨t.val % 4 * 1024 + h.val, by omega⟩) := by
  blk_ext [iblk, V, place_w2 t]

theorem flat_at (a : Vec Ideal S1x2048x1024 .f32) (h : S1x2048x1024.ShapeCasts S2048x1024) (t : Fin 2048) (k : Fin 1024) :
    shapeCast S2048x1024 a h (ix2 t k) = a (ix3 0 t k) := by
  pointwise

theorem xv_at (t : Fin 2048) (k : Fin 1024) : xv m c (ix2 t k) = m ((c : Thread nD τ).loc main_arg0) (ix3 0 t k) := by
  have h : xv m c (ix2 t k) = V m c main_call0_v0 (ix2 t k) := by
    unfold xv
    blk_ext [iblk, place_x t0]
  rw [h]
  show StableHlo.after ([hostOps0].flatten) (fun b => m (c, b)) (Proc.devRef .tc main_call0_v0) (ix2 t k) = _
  rw [show ([hostOps0 (F := Ideal)].flatten) = hostOps0 from rfl]
  simp only [StableHlo.after_cons, StableHlo.after_nil]

  refine (congrFun (StableHlo.reshape_result main_arg0 main_call0_v0 rfl shapeCasts_S1x2048x1024_S2048x1024 _ _ _) _).trans ?_
  exact flat_at (m ((c : Thread nD τ).loc main_arg0)) _ t k

end Cert.Moe

end
-- ==== Proof.TopTwo.lean ====
/- The two greatest of eight extended reals with their first positions: by masked maxima, and by a stable sort. -/
module

public import Idealize.ShloMosaic.PureOps.Ideal
public import Idealize.ShloMosaic.Lib.SortFacts
public import Idealize.ShloMosaic.PureOps.Reduce

@[expose] public section

set_option maxRecDepth 16384

noncomputable section

namespace Cert.Moe

open Idealize.ShloMosaic

/-- `i` is the first position of the greatest of the eight. -/
def IsTop (l : Fin 8 → EReal) (i : Fin 8) : Prop := ∀ j, l j ≤ l i ∧ (j < i → l j < l i)

theorem IsTop.unique {l : Fin 8 → EReal} {i i' : Fin 8} (h : IsTop l i) (h' : IsTop l i') : i = i' := by
  rcases lt_trichotomy i i' with hlt | he | hlt
  · exact absurd ((h' i).2 hlt) (not_lt.mpr (h i').1)
  · exact he
  · exact absurd ((h i').2 hlt) (not_lt.mpr (h' i).1)

theorem exists_isTop (l : Fin 8 → EReal) : ∃ i, IsTop l i := by
  obtain ⟨b, -, hb⟩ := Finset.exists_max_image Finset.univ l ⟨0, Finset.mem_univ _⟩
  have hne : (Finset.univ.filter fun i => l i = l b).Nonempty := ⟨b, by simp⟩
  refine ⟨(Finset.univ.filter fun i => l i = l b).min' hne, fun j => ?_⟩
  have hm : l ((Finset.univ.filter fun i => l i = l b).min' hne) = l b :=
    (Finset.mem_filter.mp (Finset.min'_mem _ hne)).2
  rw [hm]
  refine ⟨hb j (Finset.mem_univ _), fun hj => lt_of_le_of_ne (hb j (Finset.mem_univ _)) fun he => ?_⟩
  exact absurd (Finset.min'_le _ j (Finset.mem_filter.mpr ⟨Finset.mem_univ _, he⟩)) (not_le.mpr hj)

/-- The first position of the greatest. -/
def top (l : Fin 8 → EReal) : Fin 8 := (exists_isTop l).choose
theorem top_isTop (l : Fin 8 → EReal) : IsTop l (top l) := (exists_isTop l).choose_spec

/-- The eight with the greatest masked by −∞. -/
def rest (l : Fin 8 → EReal) : Fin 8 → EReal := fun e => if e = top l then ⊥ else l e

/-- The first position of the greatest of the rest. -/
def second (l : Fin 8 → EReal) : Fin 8 := top (rest l)

theorem rest_of_ne {l : Fin 8 → EReal} {e : Fin 8} (h : e ≠ top l) : rest l e = l e := if_neg h

theorem second_ne {l : Fin 8 → EReal} (hl : ∀ e, l e ≠ ⊥) : second l ≠ top l := by
  intro he
  obtain ⟨j, hj⟩ : ∃ j : Fin 8, j ≠ top l := exists_ne _
  have h := (top_isTop (rest l) j).1
  rw [show top (rest l) = top l from he, rest_of_ne hj, show rest l (top l) = ⊥ from if_pos rfl] at h
  exact hl j (le_bot_iff.mp h)

theorem rest_second {l : Fin 8 → EReal} (hl : ∀ e, l e ≠ ⊥) : rest l (second l) = l (second l) :=
  rest_of_ne (second_ne hl)

theorem eq_second {l : Fin 8 → EReal} (hl : ∀ e, l e ≠ ⊥) {i : Fin 8} (hi : i ≠ top l)
    (h : ∀ j, j ≠ top l → l j ≤ l i ∧ (j < i → l j < l i)) : i = second l := by
  refine IsTop.unique (l := rest l) (fun j => ?_) (top_isTop _)
  rw [rest_of_ne hi]
  by_cases hj : j = top l
  · rw [show rest l j = ⊥ from if_pos hj]
    exact ⟨bot_le, fun _ => bot_lt_iff_ne_bot.mpr (hl i)⟩
  · rw [rest_of_ne hj]; exact h j hj

/-! ## The maximum and the index as folds -/

theorem fold_max_eq (l : Fin 8 → EReal) : Finset.univ.fold max ⊥ l = l (top l) := by
  refine le_antisymm (Finset.fold_max_le _ |>.mpr ⟨bot_le, fun j _ => (top_isTop l j).1⟩) ?_
  exact (Finset.le_fold_max _).mpr (.inr ⟨top l, Finset.mem_univ _, le_rfl⟩)

theorem minsi_toInt (a b : BitVec 32) : (IntOp.minsi a b).toInt = min a.toInt b.toInt := by
  unfold IntOp.minsi
  split
  · rename_i h; rw [BitVec.slt_iff_toInt_lt] at h; omega
  · rename_i h; rw [BitVec.slt_iff_toInt_lt] at h; omega

theorem fold_minsi_toInt {ι : Type} (s : Finset ι) (b : BitVec 32) (f : ι → BitVec 32) :
    (s.fold IntOp.minsi b f).toInt = s.fold min b.toInt fun i => (f i).toInt := by
  classical
  induction s using Finset.induction_on with
  | empty => simp
  | insert a s ha ih => rw [Finset.fold_insert ha, Finset.fold_insert ha, minsi_toInt, ih]

theorem toInt_small (n : ℕ) (h : n < 2 ^ 31) : (BitVec.ofNat 32 n).toInt = n := by
  rw [BitVec.toInt_eq_toNat_of_lt] <;> rw [BitVec.toNat_ofNat, Nat.mod_eq_of_lt] <;> omega

/-- The least position whose entry is the maximum, positions elsewhere counted as eight. -/
theorem fold_index_eq (l : Fin 8 → EReal) :
    Finset.univ.fold IntOp.minsi 2147483647#32
      (fun e : Fin 8 => if l e = l (top l) then BitVec.ofNat 32 e.val else 8#32) = BitVec.ofNat 32 (top l).val := by
  have hlt := (top l).isLt
  apply BitVec.eq_of_toInt_eq
  rw [fold_minsi_toInt, toInt_small (top l).val (by omega)]
  have h8 : (8#32).toInt = 8 := by decide
  have hM : (2147483647#32).toInt = 2147483647 := by decide
  rw [hM]
  refine le_antisymm ((Finset.fold_min_le _).mpr (.inr ⟨top l, Finset.mem_univ _, ?_⟩)) ((Finset.le_fold_min _).mpr ⟨?_, fun e _ => ?_⟩)
  · rw [if_pos rfl, toInt_small _ (by omega)]
  · omega
  · split
    · rename_i he
      have hb := toInt_small e.val (by omega)
      have : ¬ e < top l := fun h => absurd ((top_isTop l e).2 h) (by rw [he]; exact lt_irrefl _)
      have : (top l).val ≤ e.val := not_lt.mp this
      rw [hb]; omega
    · rw [h8]; omega

/-! ## The stable sort, greater first -/

/-- A stable sort of positions in increasing order is the sort under the order refined by the position. -/
theorem stableSort_refined {n : ℕ} (R : Fin n → Fin n → Bool) (l : List (Fin n)) (hl : l.Pairwise (· < ·)) :
    stableSort R l = stableSort (fun a b => R a b || (!R b a && decide (a < b))) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    have : ¬ b < a := not_lt.mpr hab.le
    simp [this]

/-- `i`-th before `j`-th of the positions sorted greater first: the greater, or equal and earlier. -/
theorem sorted_before (l : Fin 8 → EReal) (i j : Fin 8) (hij : i < j) :
    l (sortedFrom (fun a b => decide (l b < l a)) j) ≤ l (sortedFrom (fun a b => decide (l b < l a)) i)
    ∧ (sortedFrom (fun a b => decide (l b < l a)) j < sortedFrom (fun a b => decide (l b < l a)) i →
        l (sortedFrom (fun a b => decide (l b < l a)) j) < l (sortedFrom (fun a b => decide (l b < l a)) i)) := by
  let R : Fin 8 → Fin 8 → Bool := fun a b => decide (l b < l a)
  let B : Fin 8 → Fin 8 → Bool := fun a b => R a b || (!R b a && decide (a < b))
  have hRB : sortedFrom R = sortedFrom B := by
    funext k
    unfold sortedFrom
    rw [List.get_of_eq (show sortPositions 8 R = sortPositions 8 B from stableSort_refined R (List.finRange 8) (List.pairwise_lt_finRange 8))]
    rfl
  show l (sortedFrom R j) ≤ l (sortedFrom R i) ∧ (sortedFrom R j < sortedFrom R i → l (sortedFrom R j) < l (sortedFrom R i))
  rw [hRB]
  have h := sortedFrom_noInversion B B (fun a b h => ?_) (fun a b h => h) (fun a b c h1 h2 => ?_) i j hij
  · have h' : l (sortedFrom B j) ≤ l (sortedFrom B i)
        ∧ (l (sortedFrom B j) < l (sortedFrom B i) ∨ sortedFrom B i ≤ sortedFrom B j) := by
      simp only [B, R, Bool.or_eq_false_iff, decide_eq_false_iff_not, not_lt, Bool.and_eq_false_iff,
        Bool.not_eq_false', decide_eq_true_eq] at h
      exact h
    exact ⟨h'.1, fun hlt => h'.2.resolve_right (not_le.mpr hlt)⟩
  · simp only [B, R, Bool.or_eq_true, decide_eq_true_eq, Bool.and_eq_true, Bool.not_eq_true',
      decide_eq_false_iff_not, not_lt, Bool.or_eq_false_iff, Bool.and_eq_false_iff, Bool.not_eq_false'] at h ⊢
    rcases h with h | ⟨h, h'⟩
    · exact ⟨h.le, .inl h⟩
    · exact ⟨h, .inr h'.le⟩
  · simp only [B, R, Bool.or_eq_false_iff, decide_eq_false_iff_not, not_lt, Bool.and_eq_false_iff,
      Bool.not_eq_false', decide_eq_true_eq] at h1 h2 ⊢
    refine ⟨h1.1.trans h2.1, ?_⟩
    rcases h1.2 with h | h
    · exact .inl (lt_of_lt_of_le h h2.1)
    · rcases h2.2 with h' | h'
      · exact .inl (lt_of_le_of_lt h1.1 h')
      · exact .inr (h'.trans h)

theorem sorted_zero (l : Fin 8 → EReal) : sortedFrom (fun a b => decide (l b < l a)) 0 = top l := by
  refine IsTop.unique (fun j => ?_) (top_isTop l)
  obtain ⟨k, rfl⟩ := sortedFrom_surjective (fun a b => decide (l b < l a)) j
  by_cases hk : k = 0
  · subst hk; exact ⟨le_rfl, fun h => absurd h (lt_irrefl _)⟩
  · exact sorted_before l 0 k (Fin.pos_of_ne_zero hk)

theorem sorted_one (l : Fin 8 → EReal) (hl : ∀ e, l e ≠ ⊥) : sortedFrom (fun a b => decide (l b < l a)) 1 = second l := by
  refine eq_second hl (fun h => ?_) fun j hj => ?_
  · rw [← sorted_zero l] at h
    exact absurd (sortedFrom_injective _ h) (by decide)
  · obtain ⟨k, rfl⟩ := sortedFrom_surjective (fun a b => decide (l b < l a)) j
    rw [← sorted_zero l] at hj
    by_cases hk : k = 1
    · subst hk; exact ⟨le_rfl, fun h => absurd h (lt_irrefl _)⟩
    · have hk0 : k ≠ 0 := fun h => hj (congrArg _ h)
      exact sorted_before l 1 k (by omega)

end Cert.Moe

end
-- ==== Proof.Constants.lean ====
/- The printed constants as extended reals. -/
module

public import Idealize.ShloMosaic.PureOps.Ideal
public import Idealize.ShloMosaic.Lib.IdealHost
public import Idealize.ShloMosaic.Lib.Pointwise

@[expose] public section

set_option maxRecDepth 16384

noncomputable section

namespace Cert.Moe

open Idealize.ShloMosaic

theorem c_bot : Ideal.ofBits .f32 0xFF800000#32 = ⊥ := by
  simp [Ideal.ofBits, Ideal.ieee]
theorem c_top : Ideal.ofBits .f32 0x7F800000#32 = ⊤ := by
  simp [Ideal.ofBits, Ideal.ieee]
theorem c_one : Ideal.ofBits .f32 0x3F800000#32 = 1 := by simp
theorem c_zero : Ideal.ofBits .f32 0x00000000#32 = 0 := Ideal.ofBits_zero_f32

/-- A positive normal word of 32 bits, by its exponent and its fraction. -/
theorem f32_normal (b : BitVec 32) (ex fr : ℕ) (hs : (b.extractLsb' 31 1 == 1#1) = false) (he : (b.extractLsb' 23 8).toNat = ex)
    (hf : (b.extractLsb' 0 23).toNat = fr) (h0 : ex ≠ 0) (h1 : ex ≠ 255) :
    Ideal.ofBits .f32 b = (((8388608 + fr : ℕ) * (2 : ℝ) ^ ((ex : ℤ) - 150) : ℝ) : EReal) := by
  show Ideal.ieee 8 23 b = _
  unfold Ideal.ieee
  simp only [Nat.reduceAdd, hs, he, hf, Nat.reducePow, Nat.reduceSub, if_neg h0, if_neg h1]
  norm_num [sub_sub]

theorem c_320 : Ideal.ofBits .f32 0x43A00000#32 = ((320 : ℝ) : EReal) := by
  rw [f32_normal _ 135 2097152 (by decide) (by decide) (by decide) (by decide) (by decide)]
  norm_num
theorem c_2560 : Ideal.ofBits .f32 0x45200000#32 = ((2560 : ℝ) : EReal) := by
  rw [f32_normal _ 138 2097152 (by decide) (by decide) (by decide) (by decide) (by decide)]
  norm_num

/-- The small constant added to the sum of a token's weights is a positive real. -/
theorem c_eps : ∃ r : ℝ, 0 < r ∧ Ideal.ofBits .f32 0x322BCC77#32 = (r : EReal) :=
  ⟨_, by positivity, f32_normal _ 100 2870391 (by decide) (by decide) (by decide) (by decide) (by decide)⟩

/-- Eight times the reference's loss factor is the kernel's. -/
theorem c_loss : Ideal.ofBits .f32 0x3DA3D70A#32 = Ideal.ofBits .f32 0x3C23D70A#32 * Ideal.ofBits .f32 0x41000000#32 := by
  rw [f32_normal 0x3DA3D70A#32 123 2348810 (by decide) (by decide) (by decide) (by decide) (by decide),
    f32_normal 0x3C23D70A#32 120 2348810 (by decide) (by decide) (by decide) (by decide) (by decide),
    f32_normal 0x41000000#32 130 0 (by decide) (by decide) (by decide) (by decide) (by decide), ← EReal.coe_mul]
  norm_num

end Cert.Moe

end
-- ==== Proof.KRoute.lean ====
/- The kernel's router read at a token: the logits, the two experts, their one-hot rows. -/
module

public import proofs.«01_k».proof.Proof.TopTwo
public import proofs.«01_k».proof.Proof.Constants
public import proofs.«01_k».proof.Proof.Gen.KernelIdeal.Skeleton
public import Idealize.ShloMosaic.Lib.Pointwise

@[expose] public section

set_option maxRecDepth 16384

noncomputable section

namespace Cert.Moe

open Idealize.ShloMosaic Cert.KernelIdeal.Gen Cert.KernelIdeal

/-- The logits as a function of the token and the expert. -/
def lg (x : Vec Ideal S2048x1024 .f32) (g : Vec Ideal S8x1024 .f32) (t : Fin 2048) (e : Fin 8) : EReal :=
  ∑ d : Fin 1024, x (ix2 t d) * g (ix2 e d)

theorem word_eq_iff (a b : Fin 8) : (BitVec.ofNat 32 a.val = BitVec.ofNat 32 b.val) ↔ a = b := by
  have ha := a.isLt
  have hb := b.isLt
  rw [← BitVec.toNat_inj, BitVec.toNat_ofNat, BitVec.toNat_ofNat, Nat.mod_eq_of_lt (by omega), Nat.mod_eq_of_lt (by omega)]
  exact Fin.val_inj

theorem cmpi_eq_word (a b : Fin 8) : IntOp.cmpi .eq (BitVec.ofNat 32 a.val) (BitVec.ofNat 32 b.val) = BitVec.ofBool (decide (a = b)) := by
  unfold IntOp.cmpi
  congr 1
  rw [Bool.eq_iff_iff, beq_iff_eq, word_eq_iff, decide_eq_true_iff]

/-- A one-bit word widened and read as a float is 0 or 1. -/
theorem bit_float (p : Bool) : (FloatOps.sitofp (F := Ideal) .f32 (BitVec.setWidth 32 (BitVec.ofBool p)) : EReal) = if p then 1 else 0 := by
  cases p
  · show (((((0 : BitVec 32)).toInt : ℝ)) : EReal) = _
    simp
  · show (((((1 : BitVec 32)).toInt : ℝ)) : EReal) = _
    simp

/-- A one-hot row at an expert. -/
def hot (i e : Fin 8) : EReal := if e = i then 1 else 0

theorem hot_word (i e : Fin 8) : (FloatOps.sitofp (F := Ideal) .f32
    (BitVec.setWidth 32 (IntOp.cmpi .eq (BitVec.ofNat 32 e.val) (BitVec.ofNat 32 i.val))) : EReal) = hot i e := by
  rw [cmpi_eq_word, bit_float]
  unfold hot
  by_cases h : e = i <;> simp [h]

variable (x : Vec Ideal S2048x1024 .f32) (g : Vec Ideal S8x1024 .f32)

theorem pay4_at (t : Fin 2048) (e : Fin 8) : k0_pay4 x g (ix2 t e) = lg x g t e := by
  pointwise [k0_pay4, lg]

theorem pay5_at (t : Fin 2048) : k0_pay5 x g (ix2 t 0) = lg x g t (top (lg x g t)) := by
  pointwise [k0_pay5, pay4_at]
  rw [c_bot]
  exact fold_max_eq _

theorem pay6_at (t : Fin 2048) : k0_pay6 x g (ix1 t) = BitVec.ofNat 32 (top (lg x g t)).val := by
  pointwise [k0_pay6, pay4_at, pay5_at]
  exact fold_index_eq _

theorem pay7_at (t : Fin 2048) (e : Fin 8) : k0_pay7 x g (ix2 t e) = hot (top (lg x g t)) e := by
  pointwise [k0_pay7, pay6_at]
  exact hot_word _ _

theorem pay8_at (t : Fin 2048) (e : Fin 8) : k0_pay8 x g (ix2 t e) = rest (lg x g t) e := by
  pointwise [k0_pay8, pay6_at, pay4_at]
  rw [c_bot, cmpi_eq_word]
  unfold rest
  by_cases h : e = top (lg x g t) <;> simp [h, Scalar.select]

theorem pay9_at (t : Fin 2048) : k0_pay9 x g (ix2 t 0) = rest (lg x g t) (second (lg x g t)) := by
  pointwise [k0_pay9, pay8_at]
  rw [c_bot]
  exact fold_max_eq _

theorem pay10_at (t : Fin 2048) : k0_pay10 x g (ix1 t) = BitVec.ofNat 32 (second (lg x g t)).val := by
  pointwise [k0_pay10, pay8_at, pay9_at]
  exact fold_index_eq _

theorem pay11_at (t : Fin 2048) (e : Fin 8) : k0_pay11 x g (ix2 t e) = hot (second (lg x g t)) e := by
  pointwise [k0_pay11, pay10_at]
  exact hot_word _ _

/-- The softmax's column sums. -/
theorem pay12_at (e : Fin 8) : k0_pay12 x g (ix1 e)
    = ∑ t : Fin 2048, Ideal.div (Ideal.exp (lg x g t e - lg x g t (top (lg x g t))))
        (∑ e' : Fin 8, Ideal.exp (lg x g t e' - lg x g t (top (lg x g t)))) := by
  pointwise [k0_pay12, pay4_at, pay5_at]

end Cert.Moe

end
-- ==== Proof.KRank.lean ====
/- A token's rank among the tokens of its expert, and the kernel's chunked running sums, which count it. -/
module

public import proofs.«01_k».proof.Proof.KRoute

@[expose] public section

set_option maxRecDepth 16384

noncomputable section

namespace Cert.Moe

open Idealize.ShloMosaic Cert.KernelIdeal.Gen Cert.KernelIdeal

/-! ## The rank of a token among its expert's -/

/-- Position `s` is a token with `e` among its two experts. -/
def took (I1 I2 : Fin 2048 → Fin 8) (e : Fin 8) (s : ℕ) : Prop := ∃ h : s < 2048, I1 ⟨s, h⟩ = e ∨ I2 ⟨s, h⟩ = e

instance (I1 I2 : Fin 2048 → Fin 8) (e : Fin 8) : DecidablePred (took I1 I2 e) := fun s => by
  unfold took; infer_instance

/-- How many earlier tokens have `e` among their experts. -/
def rank (I1 I2 : Fin 2048 → Fin 8) (e : Fin 8) (t : Fin 2048) : ℕ := Nat.count (took I1 I2 e) t.val

theorem rank_injective (I1 I2 : Fin 2048 → Fin 8) (e : Fin 8) {t t' : Fin 2048} (h : I1 t = e ∨ I2 t = e)
    (h' : I1 t' = e ∨ I2 t' = e) (hr : rank I1 I2 e t = rank I1 I2 e t') : t = t' :=
  Fin.ext (Nat.count_injective ⟨t.isLt, h⟩ ⟨t'.isLt, h'⟩ hr)

/-! ## The running sums -/

theorem sle_word (a b : ℕ) (ha : a < 2048) (hb : b < 2048) :
    IntOp.cmpi .sle (BitVec.ofNat 32 a) (BitVec.ofNat 32 b) = BitVec.ofBool (decide (a ≤ b)) := by
  unfold IntOp.cmpi
  congr 1
  rw [Bool.eq_iff_iff, BitVec.sle_iff_toInt_le, toInt_small _ (by omega), toInt_small _ (by omega), decide_eq_true_iff]
  omega

/-- A row of the triangle of ones against a column is a running sum. -/
theorem triangle_row (u : ℕ → EReal) (r : ℕ) (hr : r < 512) :
    (∑ s : Fin 512, (FloatOps.sitofp (F := Ideal) .f32 (BitVec.setWidth 32
        (IntOp.cmpi .sle (BitVec.ofNat 32 s.val) (BitVec.ofNat 32 r))) : EReal) * u s.val)
      = ∑ s ∈ Finset.range (r + 1), u s := by
  have h1 : ∀ s : Fin 512, (FloatOps.sitofp (F := Ideal) .f32 (BitVec.setWidth 32
        (IntOp.cmpi .sle (BitVec.ofNat 32 s.val) (BitVec.ofNat 32 r))) : EReal) * u s.val = if s.val ≤ r then u s.val else 0 := by
    intro s
    rw [sle_word _ _ (by omega) (by omega), bit_float]
    by_cases h : s.val ≤ r <;> simp [h]
  rw [Finset.sum_congr rfl fun s _ => h1 s, Fin.sum_univ_eq_sum_range (fun s => if s ≤ r then u s else 0) 512,
    ← Finset.sum_filter]
  refine Finset.sum_congr ?_ fun _ _ => rfl
  ext s
  simp only [Finset.mem_filter, Finset.mem_range]
  omega

/-- The chunked running sum is the running sum. -/
theorem pay15_at (a b : FVec Ideal S2048x8 .f32) (u : ℕ → EReal) (t : Fin 2048) (e : Fin 8)
    (hu : ∀ s : Fin 2048, a (ix2 s e) + b (ix2 s e) = u s.val) :
    k0_pay15 a b (ix2 t e) = ∑ s ∈ Finset.range (t.val + 1), u s := by
  have ht := t.isLt
  pointwise [k0_pay15]
  simp only [hu]
  have hs : ∀ o, (∑ s : Fin 512, u (o + s.val)) = ∑ s ∈ Finset.range 512, u (o + s) := fun o =>
    Fin.sum_univ_eq_sum_range (fun s => u (o + s)) 512
  have hs0 : (∑ s : Fin 512, u s.val) = ∑ s ∈ Finset.range 512, u s := Fin.sum_univ_eq_sum_range u 512
  split
  · rename_i h
    exact triangle_row u t.val h
  split
  · rename_i h0 h
    rw [triangle_row (fun s => u (512 + s)) (t.val - 512) h, hs0, add_comm, ← Finset.sum_range_add]
    congr 2; omega
  split
  · rename_i h0 h1 h
    rw [triangle_row (fun s => u (1024 + s)) (t.val - 512 - 512) h, hs0, hs, ← Finset.sum_range_add, add_comm, ← Finset.sum_range_add]
    congr 2; omega
  · rename_i h0 h1 h
    rw [triangle_row (fun s => u (1536 + s)) (t.val - 512 - 512 - 512) (by omega), hs0, hs, hs, ← Finset.sum_range_add,
      ← Finset.sum_range_add, add_comm, ← Finset.sum_range_add]
    congr 2; omega

theorem sum_count (p : ℕ → Prop) [DecidablePred p] (n : ℕ) :
    (∑ s ∈ Finset.range n, if p s then (1 : EReal) else 0) = ((Nat.count p n : ℝ) : EReal) := by
  induction n with
  | zero => simp
  | succ n ih =>
    rw [Finset.sum_range_succ, ih, Nat.count_succ]
    by_cases h : p n <;> simp [h]

/-- The two one-hot rows' running sum counts the tokens with the expert. -/
theorem running_count (I1 I2 : Fin 2048 → Fin 8) (hI : ∀ t, I2 t ≠ I1 t) (a b : FVec Ideal S2048x8 .f32)
    (ha : ∀ t e, a (ix2 t e) = hot (I1 t) e) (hb : ∀ t e, b (ix2 t e) = hot (I2 t) e) (t : Fin 2048) (e : Fin 8) :
    k0_pay15 a b (ix2 t e) = ((Nat.count (took I1 I2 e) (t.val + 1) : ℝ) : EReal) := by
  rw [pay15_at a b (fun s => if took I1 I2 e s then 1 else 0) t e, sum_count]
  intro s
  rw [ha, hb]
  unfold hot
  by_cases h1 : e = I1 s
  · have h2 : e ≠ I2 s := fun h => hI s (h.symm.trans h1)
    rw [if_pos h1, if_neg h2, if_pos ⟨s.isLt, .inl h1.symm⟩, add_zero]
  · by_cases h2 : e = I2 s
    · rw [if_neg h1, if_pos h2, if_pos ⟨s.isLt, .inr h2.symm⟩, zero_add]
    · rw [if_neg h1, if_neg h2, if_neg (by rintro ⟨_, h | h⟩; exacts [h1 h.symm, h2 h.symm]), add_zero]

theorem sum_hot (i : Fin 8) (f : Fin 8 → EReal) : ∑ e, hot i e * f e = f i := by
  rw [Finset.sum_eq_single i (fun e _ he => by rw [hot, if_neg he, zero_mul]) (fun h => absurd (Finset.mem_univ _) h),
    hot, if_pos rfl, one_mul]

theorem count_succ_of (I1 I2 : Fin 2048 → Fin 8) (e : Fin 8) (t : Fin 2048) (h : I1 t = e ∨ I2 t = e) :
    Nat.count (took I1 I2 e) (t.val + 1) = rank I1 I2 e t + 1 := by
  rw [Nat.count_succ, if_pos ⟨t.isLt, h⟩]; rfl

/-! ## The kernel's positions -/

variable (I1 I2 : Fin 2048 → Fin 8) (hI : ∀ t, I2 t ≠ I1 t) (a b : FVec Ideal S2048x8 .f32)
  (ha : ∀ t e, a (ix2 t e) = hot (I1 t) e) (hb : ∀ t e, b (ix2 t e) = hot (I2 t) e)
include hI ha hb

theorem pay16_at (t : Fin 2048) : k0_pay16 a b (ix1 t) = ((rank I1 I2 (I1 t) t + 1 : ℕ) : ℝ) := by
  pointwise [k0_pay16, running_count I1 I2 hI a b ha hb]
  simp only [ha]
  rw [sum_hot (I1 t) fun e => ((Nat.count (took I1 I2 e) (t.val + 1) : ℝ) : EReal), count_succ_of _ _ _ _ (.inl rfl)]

theorem pay17_at (t : Fin 2048) : k0_pay17 (k0_pay16 a b) (Scalar.ofBits .f32 0x3F800000#32) (ix1 t) = ((rank I1 I2 (I1 t) t : ℝ) : EReal) := by
  pointwise [k0_pay17, pay16_at I1 I2 hI a b ha hb]
  rw [← EReal.coe_one, ← EReal.coe_sub]
  congr 1; push_cast; ring

theorem pay18_at (t : Fin 2048) : k0_pay18 b (k0_pay15 a b) (ix1 t) = ((rank I1 I2 (I2 t) t : ℝ) : EReal) := by
  pointwise [k0_pay18, running_count I1 I2 hI a b ha hb]
  simp only [hb]
  rw [sum_hot (I2 t) fun e => ((Nat.count (took I1 I2 e) (t.val + 1) : ℝ) : EReal), count_succ_of _ _ _ _ (.inr rfl),
    ← EReal.coe_one, ← EReal.coe_sub]
  congr 1; push_cast; ring

end Cert.Moe

end
-- ==== Proof.KWeights.lean ====
/- The kernel's weights and slots of one token. -/
module

public import proofs.«01_k».proof.Proof.KRank
public import proofs.«01_k».proof.Proof.Body

@[expose] public section

set_option maxRecDepth 16384

noncomputable section

namespace Cert.Moe

open Idealize.ShloMosaic Cert.KernelIdeal.Gen Cert.KernelIdeal Cert.KernelIdeal.Moe

/-! ## The weights and the slots of one token -/

/-- The exponential of the second logit less the first. -/
def drop2 (l : Fin 8 → EReal) : EReal := Ideal.exp (rest l (second l) - l (top l))

/-- The two experts' softmax weights, zero where the expert is full. -/
def part1 (l : Fin 8 → EReal) (n : ℕ) : EReal := if n < 320 then Ideal.div 1 (1 + drop2 l) else 0
def part2 (l : Fin 8 → EReal) (n : ℕ) : EReal := if n < 320 then Ideal.div (drop2 l) (1 + drop2 l) else 0

/-- The two weights' sum with the small constant. -/
def total (l : Fin 8 → EReal) (n1 n2 : ℕ) : EReal := part1 l n1 + part2 l n2 + Ideal.ofBits .f32 0x322BCC77#32

/-- The slot of a token of rank `n` at expert `i`; the dropped tokens' slot is past every expert's. -/
def slotN (i : Fin 8) (n : ℕ) : ℕ := if n < 320 then i.val * 320 + n else 2560

theorem keep_iff (n : ℕ) : (((n : ℝ) : EReal) < ((320 : ℝ) : EReal)) ↔ n < 320 := by
  rw [EReal.coe_lt_coe_iff]
  exact_mod_cast Iff.rfl

theorem one_word : (Scalar.ofBits .f32 0x3F800000#32 : Ideal .f32) = (1 : EReal) := c_one

theorem select_ofBool {α : Type} (p : Prop) [Decidable p] (a b : α) : Scalar.select (BitVec.ofBool (decide p)) a b = if p then a else b := by
  by_cases h : p <;> simp [h, Scalar.select]

/-- An integer word of an expert read as a float. -/
theorem expert_float (i : Fin 8) : (FloatOps.sitofp (F := Ideal) .f32 (BitVec.ofNat 32 i.val) : EReal) = ((i.val : ℝ) : EReal) := by
  show ((((BitVec.ofNat 32 i.val).toInt : ℝ)) : EReal) = _
  rw [toInt_small _ (by omega)]; simp

theorem slot_float (i : Fin 8) (n : ℕ) :
    (if n < 320 then ((i.val : ℝ) : EReal) * ((320 : ℝ) : EReal) + ((n : ℝ) : EReal) else ((2560 : ℝ) : EReal)) = ((slotN i n : ℝ) : EReal) := by
  unfold slotN
  split
  · rw [← EReal.coe_mul, ← EReal.coe_add]; congr 1; push_cast; ring
  · congr 1

variable (x : Vec Ideal S2048x1024 .f32) (g : Vec Ideal S8x1024 .f32)

/-- The router's two experts and the token's rank at each. -/
def I1 (t : Fin 2048) : Fin 8 := top (lg x g t)
def I2 (t : Fin 2048) : Fin 8 := second (lg x g t)
def n1 (t : Fin 2048) : ℕ := rank (I1 x g) (I2 x g) (I1 x g t) t
def n2 (t : Fin 2048) : ℕ := rank (I1 x g) (I2 x g) (I2 x g t) t

variable (hl : ∀ t e, lg x g t e ≠ ⊥)
include hl

theorem I_ne (t : Fin 2048) : I2 x g t ≠ I1 x g t := second_ne (hl t)

theorem pos1_at (t : Fin 2048) : k0_pay17 (pos1 x g) (1 : EReal) (ix1 t) = ((n1 x g t : ℝ) : EReal) := by
  rw [← one_word]
  exact pay17_at (I1 x g) (I2 x g) (I_ne x g hl) _ _ (pay7_at x g) (pay11_at x g) t

theorem pos2_at (t : Fin 2048) : k0_pay18 (oh2 x g) (before x g) (ix1 t) = ((n2 x g t : ℝ) : EReal) :=
  pay18_at (I1 x g) (I2 x g) (I_ne x g hl) _ _ (pay7_at x g) (pay11_at x g) t

theorem part1_at (t : Fin 2048) : k0_pay22 (k0_pay5 x g) (k0_pay9 x g) (pos1 x g) (1 : EReal) (ix1 t)
    = part1 (lg x g t) (n1 x g t) := by
  pointwise [k0_pay22, k0_pay20, k0_pay19, pos1_at x g hl, pay5_at, pay9_at]
  simp only [c_320, keep_iff]
  rfl

theorem part2_at (t : Fin 2048) : k0_pay23 (k0_pay5 x g) (k0_pay9 x g) (oh2 x g) (before x g) (ix1 t)
    = part2 (lg x g t) (n2 x g t) := by
  pointwise [k0_pay23, k0_pay21, k0_pay19, pos2_at x g hl, pay5_at, pay9_at]
  simp only [c_320, keep_iff]
  rfl

theorem wn1_at (t : Fin 2048) : wn1 x g (ix1 t)
    = Ideal.div (part1 (lg x g t) (n1 x g t)) (total (lg x g t) (n1 x g t) (n2 x g t)) := by
  pointwise [wn1, k0_pay25, k0_pay24, part1_at x g hl, part2_at x g hl]
  rfl

theorem wn2_at (t : Fin 2048) : wn2 x g (ix1 t)
    = Ideal.div (part2 (lg x g t) (n2 x g t)) (total (lg x g t) (n1 x g t) (n2 x g t)) := by
  pointwise [wn2, k0_pay26, k0_pay24, part1_at x g hl, part2_at x g hl]
  rfl

theorem slot1_at (t : Fin 2048) : slot1 x g (ix1 t) = ((slotN (I1 x g t) (n1 x g t) : ℝ) : EReal) := by
  pointwise [slot1, k0_pay27, k0_pay20, pos1_at x g hl, pay6_at]
  simp only [c_320, c_2560, keep_iff]
  rw [expert_float]
  exact slot_float _ _

theorem slot2_at (t : Fin 2048) : slot2 x g (ix1 t) = ((slotN (I2 x g t) (n2 x g t) : ℝ) : EReal) := by
  pointwise [slot2, k0_pay28, k0_pay21, pos2_at x g hl, pay10_at]
  simp only [c_320, c_2560, keep_iff]
  rw [expert_float]
  exact slot_float _ _

end Cert.Moe

end
-- ==== Proof.KExpert.lean ====
/- An expert's gathered rows, one tile of its hidden layer, and what it adds to a token's output. -/
module

public import proofs.«01_k».proof.Proof.KWeights
public import proofs.«01_k».proof.Proof.BodyFirst

@[expose] public section

set_option maxRecDepth 16384

noncomputable section

namespace Cert.Moe

open Idealize.ShloMosaic Cert.KernelIdeal.Gen Cert.KernelIdeal Cert.KernelIdeal.Moe

/-! ## Slots as words -/

theorem slotN_le (i : Fin 8) (n : ℕ) : slotN i n ≤ 2560 := by
  have := i.isLt
  unfold slotN; split <;> omega

theorem slot_word (N : ℕ) (hN : N ≤ 2560) : (FloatOps.fptosi (F := Ideal) (φ := .f32) 32 (((N : ℝ) : EReal)) : BitVec 32) = BitVec.ofNat 32 N := by
  show BitVec.ofInt 32 (Ideal.toIntClamped _ _ ((N : ℝ) : EReal)) = _
  have h : Ideal.toIntClamped (-(2 ^ (32 - 1) : Nat)) ((2 ^ (32 - 1) : Nat) - 1) ((N : ℝ) : EReal) = (N : ℤ) := by
    show max _ (min _ (if (0 : ℝ) ≤ (N : ℝ) then ⌊(N : ℝ)⌋ else ⌈(N : ℝ)⌉)) = _
    rw [if_pos (Nat.cast_nonneg N), Int.floor_natCast]
    norm_num
    omega
  rw [h]; exact BitVec.ofInt_natCast 32 N

/-- Whether slot `c` of expert `e` is the slot of a token of rank `n` at expert `i`. -/
theorem hit_word (e c : ℕ) (he : e < 8) (hc : c < 320) (i : Fin 8) (n : ℕ) :
    IntOp.cmpi .eq (IntOp.addi (Scalar.muli (BitVec.ofNat 32 e) 320#32) (BitVec.ofNat 32 c))
        (FloatOps.fptosi (F := Ideal) (φ := .f32) 32 (((slotN i n : ℝ) : EReal)))
      = BitVec.ofBool (decide (i.val = e ∧ n < 320 ∧ n = c)) := by
  have hi := i.isLt
  have hle := slotN_le i n
  rw [slot_word _ hle]
  unfold IntOp.cmpi
  congr 1
  rw [Bool.eq_iff_iff, beq_iff_eq, decide_eq_true_iff]
  have hw : IntOp.addi (Scalar.muli (BitVec.ofNat 32 e) 320#32) (BitVec.ofNat 32 c) = BitVec.ofNat 32 (e * 320 + c) := by
    show BitVec.ofNat 32 e * BitVec.ofNat 32 320 + BitVec.ofNat 32 c = _
    rw [← BitVec.ofNat_mul, ← BitVec.ofNat_add]
  rw [hw, ← BitVec.toNat_inj, BitVec.toNat_ofNat, BitVec.toNat_ofNat, Nat.mod_eq_of_lt (by omega), Nat.mod_eq_of_lt (by omega)]
  unfold slotN
  split
  · constructor
    · intro h; omega
    · rintro ⟨h1, h2, h3⟩; rw [h1, h3]
  · constructor
    · intro h; omega
    · rintro ⟨_, h, _⟩; omega

theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

variable (x : Vec Ideal S2048x1024 .f32) (g : Vec Ideal S8x1024 .f32)
variable (hl : ∀ t e, lg x g t e ≠ ⊥)
include hl

/-- The gathered row at a token's slot is the token's. -/
theorem firstXe_at (i : grid0.Coords) (c : Fin 320) (d : Fin 1024) (t : Fin 2048)
    (h : ((I1 x g t).val = (i 0).val ∧ n1 x g t = c.val) ∨ ((I2 x g t).val = (i 0).val ∧ n2 x g t = c.val)) :
    firstXe i x g (ix2 c d) = x (ix2 t d) := by
  have hi : (i 0).val < 8 := (i 0).isLt
  have hc := c.isLt
  pointwise [firstXe, k0_pay36, k0_pay30, k0_pay31, slot1_at x g hl, slot2_at x g hl]
  simp only [hit_word (i 0).val c.val hi hc, ori_ofBool, bit_float]
  rw [Finset.sum_eq_single t]
  · rw [if_pos, one_mul]
    rcases h with ⟨h1, h2⟩ | ⟨h1, h2⟩
    · exact decide_eq_true (.inl ⟨h1, by omega, h2⟩)
    · exact decide_eq_true (.inr ⟨h1, by omega, h2⟩)
  · intro s _ hs
    rw [if_neg, zero_mul]
    intro hd
    apply hs
    have ht : ((I1 x g t).val = (i 0).val ∨ (I2 x g t).val = (i 0).val) ∧ rank (I1 x g) (I2 x g) ⟨(i 0).val, hi⟩ t = c.val := by
      rcases h with ⟨h1, h2⟩ | ⟨h1, h2⟩
      · refine ⟨.inl h1, ?_⟩; rw [← h2, n1]; congr 1; exact Fin.ext h1.symm
      · refine ⟨.inr h1, ?_⟩; rw [← h2, n2]; congr 1; exact Fin.ext h1.symm
    have hs' : ((I1 x g s).val = (i 0).val ∨ (I2 x g s).val = (i 0).val) ∧ rank (I1 x g) (I2 x g) ⟨(i 0).val, hi⟩ s = c.val := by
      rcases of_decide_eq_true hd with ⟨h1, _, h2⟩ | ⟨h1, _, h2⟩
      · refine ⟨.inl h1, ?_⟩; rw [← h2, n1]; congr 1; exact Fin.ext h1.symm
      · refine ⟨.inr h1, ?_⟩; rw [← h2, n2]; congr 1; exact Fin.ext h1.symm
    exact rank_injective (I1 x g) (I2 x g) ⟨(i 0).val, hi⟩ (hs'.1.imp Fin.ext Fin.ext) (ht.1.imp Fin.ext Fin.ext)
      (hs'.2.trans ht.2.symm)
  · exact fun h => absurd (Finset.mem_univ _) h

/-- A row picked at a rank below the capacity, weighted. -/
def pick (n : ℕ) (w : EReal) (y : Fin 320 → EReal) : EReal := if h : n < 320 then w * y ⟨n, h⟩ else 0

omit hl in
theorem sum_pick (n : ℕ) (w : EReal) (y : Fin 320 → EReal) :
    ∑ c : Fin 320, (if n < 320 ∧ n = c.val then w else 0) * y c = pick n w y := by
  unfold pick
  split
  · rename_i h
    rw [Finset.sum_eq_single ⟨n, h⟩ (fun c _ hc => by
      rw [if_neg, zero_mul]; rintro ⟨_, e⟩; exact hc (Fin.ext e.symm)) (fun h => absurd (Finset.mem_univ _) h), if_pos ⟨h, rfl⟩]
  · rename_i h
    exact Finset.sum_eq_zero fun c _ => by rw [if_neg (fun e => h e.1), zero_mul]

/-- The two normalized weights of a token. -/
def w1 (t : Fin 2048) : EReal := Ideal.div (part1 (lg x g t) (n1 x g t)) (total (lg x g t) (n1 x g t) (n2 x g t))
def w2 (t : Fin 2048) : EReal := Ideal.div (part2 (lg x g t) (n2 x g t)) (total (lg x g t) (n1 x g t) (n2 x g t))

/-- What expert `e` adds to a token's output: its row at the token's slot, weighted, if the token has it. -/
theorem pay2_at (e : ℕ) (he : e < 8) (y : Vec Ideal S320x1024 .f32) (t : Fin 2048) (d : Fin 1024) :
    k0_pay2 (BitVec.ofNat 32 e) (k0_pay32 (slot1 x g)) (k0_pay33 (slot2 x g)) (k0_pay34 (wn1 x g)) (k0_pay35 (wn2 x g)) y (ix2 t d)
      = (if (I1 x g t).val = e then pick (n1 x g t) (w1 x g t) (fun c => y (ix2 c d)) else 0)
        + (if (I2 x g t).val = e then pick (n2 x g t) (w2 x g t) (fun c => y (ix2 c d)) else 0) := by
  have hne : (I2 x g t).val ≠ (I1 x g t).val := fun h => I_ne x g hl t (Fin.ext h)
  pointwise [k0_pay2, k0_pay32, k0_pay33, k0_pay34, k0_pay35, slot1_at x g hl, slot2_at x g hl, wn1_at x g hl, wn2_at x g hl]
  simp only [hit_word e _ he (Fin.isLt _), bit_float]
  by_cases h1 : (I1 x g t).val = e
  · have h2 : (I2 x g t).val ≠ e := fun h => hne (h.trans h1.symm)
    rw [if_pos h1, if_neg h2, add_zero, ← sum_pick]
    refine Finset.sum_congr rfl fun c _ => ?_
    simp only [h1, h2, true_and, false_and, decide_false, Bool.false_eq_true, if_false, zero_mul, add_zero, decide_eq_true_eq, ite_mul, one_mul]
    rfl
  · rw [if_neg h1, zero_add]
    by_cases h2 : (I2 x g t).val = e
    · rw [if_pos h2, ← sum_pick]
      refine Finset.sum_congr rfl fun c _ => ?_
      simp only [h1, h2, true_and, false_and, decide_false, Bool.false_eq_true, if_false, zero_mul, zero_add, decide_eq_true_eq, ite_mul, one_mul]
      rfl
    · rw [if_neg h2]
      refine Finset.sum_eq_zero fun c _ => ?_
      simp only [h1, h2, false_and, decide_false, Bool.false_eq_true, if_false, zero_mul, add_zero]

omit hl in
/-- One tile of the hidden layer on a gathered row. -/
theorem pay37_at (xe : Vec Ideal S320x1024 .f32) (a b w : Vec Ideal S1x1024x1024 .f32) (c : Fin 320) (d : Fin 1024) :
    k0_pay37 xe a b w (ix2 c d) = ∑ h : Fin 1024, ((∑ k : Fin 1024, xe (ix2 c k) * a (ix3 0 h k))
      * Ideal.logistic (∑ k : Fin 1024, xe (ix2 c k) * a (ix3 0 h k)) * ∑ k : Fin 1024, xe (ix2 c k) * b (ix3 0 h k)) * w (ix3 0 d h) := by
  pointwise [k0_pay37]

end Cert.Moe

end
-- ==== Proof.KOut.lean ====
/- The kernel's combined output after its last grid point: every token's two experts' outputs, each under its combine weight. -/
module

public import proofs.«01_k».proof.Proof.KBlocks
public import proofs.«01_k».proof.Proof.KExpert

@[expose] public section

set_option maxRecDepth 16384

noncomputable section

namespace Cert.Moe

open Idealize.ShloMosaic Idealize.ShloMosaic.TcCoe Idealize.ShloMosaic.Tactic Cert.KernelIdeal.Gen Cert.KernelIdeal Cert.KernelIdeal.Moe

/-! ## One expert's output on a row -/

/-- What hidden unit `h` of expert `e` adds to output lane `d` on the row `r`. -/
def unitOut (r : Fin 1024 → EReal) (a b : Fin 8 → Fin 4096 → Fin 1024 → EReal) (w : Fin 8 → Fin 1024 → Fin 4096 → EReal)
    (e : Fin 8) (d : Fin 1024) (h : Fin 4096) : EReal :=
  (∑ k : Fin 1024, r k * a e h k) * Ideal.logistic (∑ k : Fin 1024, r k * a e h k) * (∑ k : Fin 1024, r k * b e h k) * w e d h

/-- Expert `e`'s output lane `d` on the row `r`: the sum over the hidden units. -/
def expertOut (r : Fin 1024 → EReal) (a b : Fin 8 → Fin 4096 → Fin 1024 → EReal) (w : Fin 8 → Fin 1024 → Fin 4096 → EReal)
    (e : Fin 8) (d : Fin 1024) : EReal := ∑ h : Fin 4096, unitOut r a b w e d h

/-- The same over the 1024 hidden units of tile `s`. -/
def tileOut (r : Fin 1024 → EReal) (a b : Fin 8 → Fin 4096 → Fin 1024 → EReal) (w : Fin 8 → Fin 1024 → Fin 4096 → EReal)
    (e : Fin 8) (d : Fin 1024) (s : ℕ) : EReal :=
  ∑ h : Fin 1024, if hs : s < 4 then unitOut r a b w e d ⟨s * 1024 + h.val, by omega⟩ else 0

/-- The four tiles make the expert. -/
theorem sum_tiles (r : Fin 1024 → EReal) (a b : Fin 8 → Fin 4096 → Fin 1024 → EReal) (w : Fin 8 → Fin 1024 → Fin 4096 → EReal)
    (e : Fin 8) (d : Fin 1024) : ∑ s ∈ Finset.range 4, tileOut r a b w e d s = expertOut r a b w e d := by
  have key := Fin.sum_univ_univ_mul_add 4 1024 fun l => if hl : l < 4096 then unitOut r a b w e d ⟨l, hl⟩ else 0
  rw [← Fin.sum_univ_eq_sum_range (fun s => tileOut r a b w e d s) 4]
  refine Eq.trans (Finset.sum_congr rfl fun s _ => Finset.sum_congr rfl fun h _ => ?_) (key.trans ?_)
  · have h1 := s.isLt
    have h2 : s.val * 1024 + h.val < 4096 := by omega
    rw [dif_pos h1, dif_pos h2]
  · exact Finset.sum_congr rfl fun l _ => dif_pos l.isLt

variable (m : (ℓ : Loc nD τ sig) → Buf (Elt Ideal) ℓ) (c : Dev nD)

/-- The three weights by expert, row and lane. -/
def A1 (e : Fin 8) (h : Fin 4096) (k : Fin 1024) : EReal := m ((c : Thread nD τ).loc main_arg2) (ix3 e h k)
def A3 (e : Fin 8) (h : Fin 4096) (k : Fin 1024) : EReal := m ((c : Thread nD τ).loc main_arg3) (ix3 e h k)
def A2 (e : Fin 8) (d : Fin 1024) (h : Fin 4096) : EReal := m ((c : Thread nD τ).loc main_arg4) (ix3 e d h)

/-- The expert of grid point `n`. -/
def expertOf (n : ℕ) (h : n < cfg0.N) : Fin 8 := ⟨n / 4, by have := pts ▸ h; omega⟩

theorem tile_at (n : ℕ) (hn : n < cfg0.N) (xe : Vec Ideal S320x1024 .f32) (q : Fin 320) (d : Fin 1024) :
    k0_pay37 xe (iblk m c 2 ⟨n, hn⟩) (iblk m c 3 ⟨n, hn⟩) (iblk m c 4 ⟨n, hn⟩) (ix2 q d)
      = tileOut (fun k => xe (ix2 q k)) (A1 m c) (A3 m c) (A2 m c) (expertOf n hn) d (n % 4) := by
  rw [pay37_at]
  refine Finset.sum_congr rfl fun h _ => ?_
  have h4 : n % 4 < 4 := Nat.mod_lt _ (by decide)
  rw [dif_pos h4]
  unfold unitOut A1 A3 A2 expertOf
  simp only [w1_at m c ⟨n, hn⟩, w3_at m c ⟨n, hn⟩, w2_at m c ⟨n, hn⟩]

/-- The body's additions and copies, element by element. -/
theorem pay38_at (xe : Vec Ideal S320x1024 .f32) (a b w : Vec Ideal S1x1024x1024 .f32) (q : Fin 320) (d : Fin 1024) :
    k0_pay38 xe a b w (ix2 q d) = k0_pay37 xe a b w (ix2 q d) := by
  pointwise [k0_pay38]

theorem pay1_at (new old : Vec Ideal S320x1024 .f32) (q : Fin 320) (d : Fin 1024) :
    k0_pay1 new old (ix2 q d) = old (ix2 q d) + new (ix2 q d) := by
  pointwise [k0_pay1]

theorem pay3_at (e : BitVec 32) (s1 s2 u1 u2 : Vec Ideal S2048x1 .f32) (y : Vec Ideal S320x1024 .f32)
    (o : Vec Ideal S2048x1024 .f32) (t : Fin 2048) (d : Fin 1024) :
    k0_pay3 e s1 s2 u1 u2 y o (ix2 t d) = o (ix2 t d) + k0_pay2 e s1 s2 u1 u2 y (ix2 t d) := by
  pointwise [k0_pay3]

/-! ## The grid points' recursions -/

/-- The gathered rows are those of the point's expert. -/
theorem xeS_eq (n : ℕ) (h : n < cfg0.N) : ∃ i : grid0.Coords, (i 0).val = n / 4 ∧ xeS m c n h = firstXe i (xv m c) (gv m c) := by
  induction n with
  | zero => exact ⟨_, coord_expert ⟨0, h⟩, rfl⟩
  | succ n ih =>
    by_cases h4 : (n + 1) % 4 = 0
    · exact ⟨_, coord_expert ⟨n + 1, h⟩, by rw [xeS, if_pos h4]⟩
    · obtain ⟨i, hi, hx⟩ := ih (Nat.lt_of_succ_lt h)
      exact ⟨i, by omega, by rw [xeS, if_neg h4, hx]⟩

/-- The expert's partial outputs: the tiles up to the point's. -/
theorem ycS_at (n : ℕ) (h : n < cfg0.N) (q : Fin 320) (d : Fin 1024) :
    ycS m c n h (ix2 q d) = ∑ s ∈ Finset.range (n % 4 + 1),
      tileOut (fun k => xeS m c n h (ix2 q k)) (A1 m c) (A3 m c) (A2 m c) (expertOf n h) d s := by
  induction n with
  | zero =>
    have e := tile_at m c 0 h (xeS m c 0 h) q d
    rw [ycS, pay38_at, e]
    exact (Finset.sum_range_one _).symm
  | succ n ih =>
    have e := tile_at m c (n + 1) h (xeS m c (n + 1) h) q d
    by_cases h4 : (n + 1) % 4 = 0
    · rw [h4] at e ⊢
      rw [ycS, if_pos h4, zero_add, Finset.sum_range_one, pay38_at, e]
    · have ih' := ih (Nat.lt_of_succ_lt h)
      have h5 : (n + 1) % 4 = n % 4 + 1 := by omega
      have he : expertOf (n + 1) h = expertOf n (Nat.lt_of_succ_lt h) := Fin.ext (by show (n + 1) / 4 = n / 4; omega)
      have hx : xeS m c (n + 1) h = xeS m c n (Nat.lt_of_succ_lt h) := by rw [xeS, if_neg h4]
      rw [h5] at e ⊢
      rw [ycS, if_neg h4, Finset.sum_range_succ]
      rw [pay1_at, e, he, hx, ih']

variable (hl : ∀ t e, lg (xv m c) (gv m c) t e ≠ ⊥)
include hl

/-- What expert `e` adds to a token's output. -/
def contrib (e : ℕ) (t : Fin 2048) (d : Fin 1024) : EReal :=
  (if (I1 (xv m c) (gv m c) t).val = e then pick (n1 (xv m c) (gv m c) t) (w1 (xv m c) (gv m c) t)
      (fun _ => expertOut (fun k => xv m c (ix2 t k)) (A1 m c) (A3 m c) (A2 m c) (I1 (xv m c) (gv m c) t) d) else 0)
  + (if (I2 (xv m c) (gv m c) t).val = e then pick (n2 (xv m c) (gv m c) t) (w2 (xv m c) (gv m c) t)
      (fun _ => expertOut (fun k => xv m c (ix2 t k)) (A1 m c) (A3 m c) (A2 m c) (I2 (xv m c) (gv m c) t) d) else 0)

/-- The finished expert's row of a token that it keeps. -/
theorem row_at (n : ℕ) (h : n < cfg0.N) (h3 : n % 4 = 3) (t : Fin 2048) (d : Fin 1024) (q : Fin 320)
    (hq : ((I1 (xv m c) (gv m c) t).val = n / 4 ∧ n1 (xv m c) (gv m c) t = q.val)
      ∨ ((I2 (xv m c) (gv m c) t).val = n / 4 ∧ n2 (xv m c) (gv m c) t = q.val)) :
    ycS m c n h (ix2 q d) = expertOut (fun k => xv m c (ix2 t k)) (A1 m c) (A3 m c) (A2 m c) (expertOf n h) d := by
  obtain ⟨i, hi, hx⟩ := xeS_eq m c n h
  rw [ycS_at, h3, sum_tiles]
  congr 1
  funext k
  rw [hx]
  exact firstXe_at _ _ hl i q k t (by rw [hi]; exact hq)

theorem pay2_contrib (n : ℕ) (h : n < cfg0.N) (h3 : n % 4 = 3) (t : Fin 2048) (d : Fin 1024) :
    outFirst m c (grid0.coords ⟨n, h⟩) (ycS m c n h) (ix2 t d) = contrib m c (n / 4) t d := by
  have hn : n < 32 := pts ▸ h
  unfold outFirst contrib
  rw [coord_expert ⟨n, h⟩, pay2_at (xv m c) (gv m c) hl (n / 4) (by omega)]
  congr 1
  · by_cases h1 : (I1 (xv m c) (gv m c) t).val = n / 4
    · rw [if_pos h1, if_pos h1]
      unfold pick
      by_cases hc : n1 (xv m c) (gv m c) t < 320
      · rw [dif_pos hc, dif_pos hc]
        show _ * ycS m c n h (ix2 _ d) = _ * expertOut _ _ _ _ _ _
        rw [row_at m c hl n h h3 t d ⟨_, hc⟩ (Or.inl ⟨h1, rfl⟩)]
        rw [show I1 (xv m c) (gv m c) t = expertOf n h from Fin.ext h1]
      · rw [dif_neg hc, dif_neg hc]
    · rw [if_neg h1, if_neg h1]
  · by_cases h1 : (I2 (xv m c) (gv m c) t).val = n / 4
    · rw [if_pos h1, if_pos h1]
      unfold pick
      by_cases hc : n2 (xv m c) (gv m c) t < 320
      · rw [dif_pos hc, dif_pos hc]
        show _ * ycS m c n h (ix2 _ d) = _ * expertOut _ _ _ _ _ _
        rw [row_at m c hl n h h3 t d ⟨_, hc⟩ (Or.inr ⟨h1, rfl⟩)]
        rw [show I2 (xv m c) (gv m c) t = expertOf n h from Fin.ext h1]
      · rw [dif_neg hc, dif_neg hc]
    · rw [if_neg h1, if_neg h1]

/-- The output after point `n`: the experts that are finished. -/
theorem outS_at (n : ℕ) (h : n < cfg0.N) (hn : 3 ≤ n) (t : Fin 2048) (d : Fin 1024) :
    outS m c n h (ix2 t d) = ∑ e ∈ Finset.range ((n + 1) / 4), contrib m c e t d := by
  induction n with
  | zero => omega
  | succ n ih =>
    by_cases h3 : (n + 1) % 4 = 3
    · have p := pay2_contrib m c hl (n + 1) h h3 t d
      rw [outS, if_pos h3]
      by_cases h4 : n + 1 < 4
      · rw [if_pos h4, p]
        rw [show (n + 1) / 4 = 0 by omega, show (n + 1 + 1) / 4 = 1 by omega, Finset.sum_range_one]
      · rw [if_neg h4]
        have ih' := ih (Nat.lt_of_succ_lt h) (by omega)
        have e : (n + 1 + 1) / 4 = (n + 1) / 4 + 1 := by omega
        rw [e, Finset.sum_range_succ, ← p, ← ih', outMore, pay3_at, outFirst]
    · rw [outS, if_neg h3, ih (Nat.lt_of_succ_lt h) (by omega)]
      have e : (n + 1 + 1) / 4 = (n + 1) / 4 := by omega
      rw [e]

omit hl in
/-- A sum over experts with one of them picked. -/
theorem sum_one (i : Fin 8) (v : EReal) : ∑ e ∈ Finset.range 8, (if i.val = e then v else 0) = v := by
  rw [Finset.sum_ite_eq, if_pos (Finset.mem_range.mpr i.isLt)]

theorem out_last (h : 31 < cfg0.N) (t : Fin 2048) (d : Fin 1024) :
    outS m c 31 h (ix2 t d)
      = pick (n1 (xv m c) (gv m c) t) (w1 (xv m c) (gv m c) t)
          (fun _ => expertOut (fun k => xv m c (ix2 t k)) (A1 m c) (A3 m c) (A2 m c) (I1 (xv m c) (gv m c) t) d)
        + pick (n2 (xv m c) (gv m c) t) (w2 (xv m c) (gv m c) t)
          (fun _ => expertOut (fun k => xv m c (ix2 t k)) (A1 m c) (A3 m c) (A2 m c) (I2 (xv m c) (gv m c) t) d) := by
  rw [outS_at m c hl 31 h (by omega)]
  unfold contrib
  rw [Finset.sum_add_distrib]
  congr 1
  · exact sum_one _ _
  · exact sum_one _ _

end Cert.Moe

end
-- ==== Proof.KRun.lean ====
/- What the kernel's run leaves in its two results: the combined output after the last grid point, and the auxiliary loss. -/
module

public import proofs.«01_k».proof.Proof.KOut

@[expose] public section

set_option maxRecDepth 16384

noncomputable section

namespace Cert.Moe

open Idealize.ShloMosaic Idealize.ShloMosaic.TcCoe Idealize.ShloMosaic.Tactic Idealize.SL.Sem Cert.KernelIdeal.Gen Cert.KernelIdeal Cert.KernelIdeal.Moe

/-! ## The auxiliary loss at its one element -/

theorem auxK_at (x : Vec Ideal S2048x1024 .f32) (g : Vec Ideal S8x1024 .f32) : auxK x g (ix2 0 0)
    = Ideal.ofBits .f32 0x3DA3D70A#32 * ∑ e : Fin 8,
        Ideal.div (∑ t : Fin 2048, (hot (I1 x g t) e + hot (I2 x g t) e)) (Ideal.ofBits .f32 0x45000000#32)
        * Ideal.div (∑ t : Fin 2048, Ideal.div (Ideal.exp (lg x g t e - lg x g t (top (lg x g t))))
            (∑ e' : Fin 8, Ideal.exp (lg x g t e' - lg x g t (top (lg x g t))))) (Ideal.ofBits .f32 0x45000000#32) := by
  unfold auxK oh1 oh2
  pointwise [k0_pay29, k0_pay14, k0_pay13, pay12_at, pay7_at, pay11_at]
  rfl

variable (m : (ℓ : Loc nD τ sig) → Buf (Elt Ideal) ℓ) (ρ : Dev nD → PrngReg)

/-! ## The output windows' arrays -/

/-- The last grid point. -/
abbrev tl : Fin cfg0.N := ⟨31, by rw [pts]; decide⟩

theorem array_out (c : Dev nD) : (dats m 0 c).arrAt 5 cfg0.N = outS m c 31 tl.isLt := by
  refine (dats m 0 c).arrAt_eq_of_after_last 5 tl (by decide +kernel) _ fun j => ?_
  rw [left_out]
  blk_simp
  rfl

theorem array_aux (c : Dev nD) : (dats m 0 c).arrAt 6 cfg0.N = auxK (xv m c) (gv m c) := by
  refine (dats m 0 c).arrAt_eq_of_after_last 6 tl (by decide +kernel) _ fun j => ?_
  rw [left_aux]
  blk_simp
  rfl

/-! ## The host's reshapes after the launch -/

theorem tail_out (σ : Valuation τ sig (Elt Ideal)) : StableHlo.after ([hostOps1].flatten) σ (Proc.devRef .tc main_v0_0)
    = shapeCast S1x2048x1024 (σ (Proc.devRef .tc main_call0_v1_0) : Vec Ideal S2048x1024 .f32) shapeCasts_S2048x1024_S1x2048x1024 := by
  rw [show ([hostOps1 (F := Ideal)].flatten) = hostOps1 from rfl]
  simp only [StableHlo.after_cons, StableHlo.after_nil]
  refine (HloOp.result_of_not_mem _ _ (by decide)).trans ?_
  exact StableHlo.reshape_result main_call0_v1_0 main_v0_0 rfl shapeCasts_S2048x1024_S1x2048x1024 _ _ _

theorem tail_aux (σ : Valuation τ sig (Elt Ideal)) : StableHlo.after ([hostOps1].flatten) σ (Proc.devRef .tc main_v0_1)
    = shapeCast S_ (σ (Proc.devRef .tc main_call0_v1_1) : Vec Ideal S1x1 .f32) shapeCasts_S1x1_S_ := by
  rw [show ([hostOps1 (F := Ideal)].flatten) = hostOps1 from rfl]
  simp only [StableHlo.after_cons, StableHlo.after_nil]
  exact StableHlo.reshape_result main_call0_v1_1 main_v0_1 rfl shapeCasts_S1x1_S_ _ _ _

/-- The kernel's run: both results, and the arguments as launched. -/
theorem kernel_run : θ_run defs (onTc (τ := τ) (main (F := Ideal))) ⟨m, fun _ => 0, ρ⟩ (fun r => ∀ c : Dev nD,
      r.2.mem ((c.tc : Thread nD τ).loc main_v0_0)
        = shapeCast S1x2048x1024 (outS m c 31 tl.isLt : Vec Ideal S2048x1024 .f32) shapeCasts_S2048x1024_S1x2048x1024
      ∧ r.2.mem ((c.tc : Thread nD τ).loc main_v0_1) = shapeCast S_ (auxK (xv m c) (gv m c)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ?_, h.2 c⟩)
    (θ_run_and (run_main m ρ) (frame_of m ρ (dats m) (A_eq m) (run_main m ρ)))
  · refine ((h.1 c).2 main_v0_0 (Pipeline.mem_restRefs_of main_v0_0 (by decide) (by decide))).trans ?_
    refine (tail_out _).trans ?_
    congr 1
    exact (Pipeline.withArrays_arr spec0 (by decide) c _ _ 5).trans (array_out m c)
  · refine ((h.1 c).2 main_v0_1 (Pipeline.mem_restRefs_of main_v0_1 (by decide) (by decide))).trans ?_
    refine (tail_aux _).trans ?_
    congr 1
    exact (Pipeline.withArrays_arr spec0 (by decide) c _ _ 6).trans (array_aux m c)

end Cert.Moe

end
-- ==== Proof.RRoute.lean ====
/- The reference's router read at an index: the logits, the two chosen experts with their logits, and the two softmaxes' exponentials. -/
module

public import proofs.«01_k».proof.Proof.KWeights
public import proofs.«01_k».proof.Proof.Gen.ReferenceIdeal.Run
public import Idealize.ShloMosaic.Lib.Tactic.ValueTie

@[expose] public section

set_option maxRecDepth 16384

noncomputable section

namespace Cert.Moe

open Idealize.ShloMosaic Idealize.ShloMosaic.TcCoe Idealize.ShloMosaic.Tactic Cert.ReferenceIdeal Cert.ReferenceIdeal.Value Cert.ReferenceIdeal.Gen

variable (V0 : Valuation τ sig (Elt Ideal)) (x : Vec Ideal Cert.KernelIdeal.S2048x1024 .f32) (g : Vec Ideal Cert.KernelIdeal.S8x1024 .f32)
variable (hx : ∀ (t : Fin 2048) (k : Fin 1024), (V0 (Proc.devRef .tc main_arg0) : Vec Ideal S1x2048x1024 .f32) (ix3 0 t k) = x (ix2 t k))
variable (hg : ∀ (e : Fin 8) (k : Fin 1024), (V0 (Proc.devRef .tc main_arg1) : Vec Ideal S8x1024 .f32) (ix2 e k) = g (ix2 e k))

include hx in
theorem tokens_at (t : Fin 2048) (k : Fin 1024) : (res_main_v0 V0 : Vec Ideal S2048x1024 .f32) (ix2 t k) = x (ix2 t k) := by
  unfold res_main_v0
  clean_types
  pointwise [hx]

/-- The reference's logits, at their shape. -/
def logitsR : FVec Ideal S2048x8 .f32 := res_main_v2 V0

include hx hg in
theorem logits_at (t : Fin 2048) (e : Fin 8) : logitsR V0 (ix2 t e) = lg x g t e := by
  unfold logitsR res_main_v2
  clean_types
  pointwise [tokens_at V0 x hx, hg]
  rfl

/-! ## The two greatest, by a sort -/

/-- Position `K` of a row of the stable sort by "greater first" holds the entry at the sorted order's `K`-th source. -/
theorem sort_row {β : Type} (l : FVec Ideal S2048x8 .f32) (y : S2048x8.Idx → β) (t : Fin 2048) (K : Fin 8) :
    (Host.sort2 S2048x8 1 (fun p q => FloatOps.cmpfTotal (F := Ideal) .gt p.1 q.1) l y).1 (ix2 t K)
        = l (ix2 t (sortedFrom (fun a b => decide (l (ix2 t b) < l (ix2 t a))) K))
      ∧ (Host.sort2 S2048x8 1 (fun p q => FloatOps.cmpfTotal (F := Ideal) .gt p.1 q.1) l y).2 (ix2 t K)
        = y (ix2 t (sortedFrom (fun a b => decide (l (ix2 t b) < l (ix2 t a))) K)) := by
  have hal : ∀ (h : 1 < S2048x8.rank) (a : Fin (S2048x8.size ⟨1, h⟩)), Shape.Idx.along (s := S2048x8) (ix2 t K) ⟨1, h⟩ a = ix2 t a :=
    fun h a => by
      funext i
      match i with
      | ⟨0, _⟩ => rfl
      | ⟨1, _⟩ => rfl
  have hb : (fun a b : Fin 8 => (FloatOps.cmpfTotal (F := Ideal) .gt (l (ix2 t a)) (l (ix2 t b)) == 1#1))
      = fun a b => decide (l (ix2 t b) < l (ix2 t a)) := by
    funext a b
    show (BitVec.ofBool (decide (l (ix2 t b) < l (ix2 t a))) == 1#1) = _
    by_cases hc : l (ix2 t b) < l (ix2 t a) <;> simp [hc]
  unfold Host.sort2
  rw [dif_pos (show 1 < S2048x8.rank by decide)]
  simp only [hal]
  rw [← hb]
  exact ⟨rfl, rfl⟩

theorem slice_row {α : Type} (v : S2048x8.Idx → α) (h : S2048x8.Slices (fun _ => 0) S2048x2) (t : Fin 2048) (k : Fin 2) (K : Fin 8)
    (hK : K.val = k.val) : extractStridedSlice S2048x2 (fun _ => 0) v h (ix2 t k) = v (ix2 t K) := by
  unfold extractStridedSlice
  refine congrArg v (funext fun i => ?_)
  match i with
  | ⟨0, _⟩ => exact Fin.ext (by show 0 + t.val = t.val; omega)
  | ⟨1, _⟩ => exact Fin.ext (by show 0 + k.val = K.val; omega)

theorem top_two (l : FVec Ideal S2048x8 .f32) (h : S2048x8.Slices (fun _ => 0) S2048x2) (t : Fin 2048) (k : Fin 2) (K : Fin 8)
    (hK : K.val = k.val) :
    (Host.topK S2048x2 1 (FloatOps.cmpfTotal (F := Ideal) (φ := .f32) .gt) l h).1 (ix2 t k)
        = l (ix2 t (sortedFrom (fun a b => decide (l (ix2 t b) < l (ix2 t a))) K))
      ∧ (Host.topK S2048x2 1 (FloatOps.cmpfTotal (F := Ideal) (φ := .f32) .gt) l h).2 (ix2 t k)
        = BitVec.ofNat 32 (sortedFrom (fun a b => decide (l (ix2 t b) < l (ix2 t a))) K).val := by
  have e := sort_row l (fun i : S2048x8.Idx => if hd : 1 < S2048x8.rank then iotaInDim S2048x8 32 ⟨1, hd⟩ i else 0#32) t K
  unfold Host.topK
  exact ⟨(slice_row _ h t k K hK).trans e.1, (slice_row _ h t k K hK).trans e.2⟩

/-! ## What the router chose -/

variable (hl : ∀ t e, lg x g t e ≠ ⊥)

/-- The chosen expert and its logit. -/
def chosen (t : Fin 2048) (k : Fin 2) : Fin 8 := if k = 0 then I1 x g t else I2 x g t

include hx hg hl in
theorem sorted_at (t : Fin 2048) (k : Fin 2) (K : Fin 8) (hK : K.val = k.val) :
    sortedFrom (fun a b => decide (logitsR V0 (ix2 t b) < logitsR V0 (ix2 t a))) K
      = chosen x g t k := by
  have hb : (fun a b => decide (logitsR V0 (ix2 t b) < logitsR V0 (ix2 t a)))
      = fun a b => decide (lg x g t b < lg x g t a) := by
    funext a b
    rw [logits_at V0 x g hx hg, logits_at V0 x g hx hg]
  rw [hb]
  unfold chosen
  match k with
  | ⟨0, _⟩ =>
    rw [show K = 0 from Fin.ext hK, sorted_zero]
    rfl
  | ⟨1, _⟩ =>
    rw [show K = 1 from Fin.ext hK, sorted_one _ (hl t)]
    rfl

include hx hg hl in
theorem indices_at (t : Fin 2048) (k : Fin 2) :
    (res_main_indices V0 : IVec S2048x2 32) (ix2 t k) = BitVec.ofNat 32 (chosen x g t k).val := by
  unfold res_main_indices
  refine (top_two (logitsR V0) _ t k ⟨k.val, by omega⟩ rfl).2.trans ?_
  rw [sorted_at V0 x g hx hg hl t k _ rfl]

include hx hg hl in
theorem values_at (t : Fin 2048) (k : Fin 2) :
    (res_main_values V0 : FVec Ideal S2048x2 .f32) (ix2 t k) = lg x g t (chosen x g t k) := by
  unfold res_main_values
  refine (top_two (logitsR V0) _ t k ⟨k.val, by omega⟩ rfl).1.trans ?_
  rw [sorted_at V0 x g hx hg hl t k _ rfl, logits_at V0 x g hx hg]

end Cert.Moe

end
-- ==== Proof.RAux.lean ====
/- The reference's auxiliary loss read at its one element. -/
module

public import proofs.«01_k».proof.Proof.RRoute

@[expose] public section

set_option maxRecDepth 16384

noncomputable section

namespace Cert.Moe

open Idealize.ShloMosaic Idealize.ShloMosaic.TcCoe Idealize.ShloMosaic.Tactic Cert.ReferenceIdeal Cert.ReferenceIdeal.Value Cert.ReferenceIdeal.Gen

variable (V0 : Valuation τ sig (Elt Ideal)) (x : Vec Ideal Cert.KernelIdeal.S2048x1024 .f32) (g : Vec Ideal Cert.KernelIdeal.S8x1024 .f32)
variable (hx : ∀ (t : Fin 2048) (k : Fin 1024), (V0 (Proc.devRef .tc main_arg0) : Vec Ideal S1x2048x1024 .f32) (ix3 0 t k) = x (ix2 t k))
variable (hg : ∀ (e : Fin 8) (k : Fin 1024), (V0 (Proc.devRef .tc main_arg1) : Vec Ideal S8x1024 .f32) (ix2 e k) = g (ix2 e k))
variable (hl : ∀ t e, lg x g t e ≠ ⊥)

/-- The auxiliary loss of the reference's run. -/
def auxR : FVec Ideal S_ .f32 := mulf (mulf (constant S_ .f32 0x3C23D70A#32) (Host.reduceAdd (mulf (Host.divf (Host.reduceAdd (Host.reduceAdd (uitofp .f32 (cmpi .eq (broadcastInDim S2048x2x8 ![0, 1, 2] bcast_S2048x2x1_S2048x2x8_0_1_2 (broadcastInDim S2048x2x1 ![0, 1] bcast_S2048x2_S2048x2x1_0_1 (res_main_indices V0))) (broadcastInDim S2048x2x8 ![0, 1, 2] bcast_S1x1x8_S2048x2x8_0_1_2 (iotaInDim S1x1x8 32 2)))) (constant S_ .f32 0x00000000#32) reducesTo_S2048x2x8_S2048x8_d1 h_S_) (constant S_ .f32 0x00000000#32) reducesTo_S2048x8_S8_d0 h_S_) (broadcastInDim S8 ![] bcast_S_S8 (constant S_ .f32 0x45000000#32))) (Host.divf (Host.reduceAdd (Host.divf (res_main_v20 V0) (broadcastInDim S2048x8 ![0, 1] bcast_S2048x1_S2048x8_0_1 (broadcastInDim S2048x1 ![0] bcast_S2048_S2048x1_0 (Host.reduceAdd (res_main_v20 V0) (constant S_ .f32 0x00000000#32) reducesTo_S2048x8_S2048_d1 h_S_)))) (constant S_ .f32 0x00000000#32) reducesTo_S2048x8_S8_d0 h_S_) (broadcastInDim S8 ![] bcast_S_S8 (constant S_ .f32 0x45000000#32)))) (constant S_ .f32 0x00000000#32) reducesTo_S8_S_d0 h_S_)) (constant S_ .f32 0x41000000#32)

/-- A one-hot entry from a one-bit flag. -/
theorem hot_flag (i e : Fin 8) : (FloatOps.uitofp (F := Ideal) .f32
    (IntOp.cmpi .eq (BitVec.ofNat 32 i.val) (BitVec.ofNat 32 e.val)) : EReal) = hot i e := by
  rw [cmpi_eq_word]
  unfold hot
  by_cases h : i = e
  · subst h
    rw [if_pos rfl, decide_eq_true rfl]
    show ((((1#1 : BitVec 1).toNat : ℝ)) : EReal) = 1
    simp
  · rw [if_neg (Ne.symm h), decide_eq_false h]
    show ((((0#1 : BitVec 1).toNat : ℝ)) : EReal) = 0
    simp

include hx hg in
theorem probs_at (t : Fin 2048) (e : Fin 8) :
    (res_main_v20 V0 : FVec Ideal S2048x8 .f32) (ix2 t e) = Ideal.exp (lg x g t e - lg x g t (top (lg x g t))) := by
  unfold res_main_v20
  clean_types
  have h := logits_at V0 x g hx hg
  unfold logitsR at h
  pointwise [h]
  rw [c_bot, max_eq_right bot_le]
  rw [show Finset.univ.fold max ⊥ (fun e' => lg x g t e') = lg x g t (top (lg x g t)) from fold_max_eq _]

include hx hg hl in
theorem auxR_at : auxR V0 ix0
    = Ideal.ofBits .f32 0x3DA3D70A#32 * ∑ e : Fin 8,
        Ideal.div (∑ t : Fin 2048, (hot (I1 x g t) e + hot (I2 x g t) e)) (Ideal.ofBits .f32 0x45000000#32)
        * Ideal.div (∑ t : Fin 2048, Ideal.div (Ideal.exp (lg x g t e - lg x g t (top (lg x g t))))
            (∑ e' : Fin 8, Ideal.exp (lg x g t e' - lg x g t (top (lg x g t))))) (Ideal.ofBits .f32 0x45000000#32) := by
  unfold auxR
  have hp := probs_at V0 x g hx hg
  have hi := indices_at V0 x g hx hg hl
  clean_types
  pointwise [hp, hi]
  simp only [hot_flag]
  rw [c_loss, mul_right_comm]
  congr 1
  refine Finset.sum_congr rfl fun e _ => ?_
  congr 2
  refine Finset.sum_congr rfl fun t _ => ?_
  rw [Fin.sum_univ_two]
  rfl

end Cert.Moe

end
-- ==== Proof.ROps.lean ====
/- Three of the reference's host operations read at an index: the running sum down a column, the entry taken from a row, and the lane row gathered at an expert and a token. -/
module

public import proofs.«01_k».proof.Proof.TopTwo
public import proofs.«01_k».proof.Proof.Gen.ReferenceIdeal.Run
public import Idealize.ShloMosaic.Lib.Routing.Ops
public import Idealize.ShloMosaic.Lib.Pointwise

@[expose] public section

set_option maxRecDepth 16384

noncomputable section

namespace Cert.Moe

open Idealize.ShloMosaic Idealize.ShloMosaic.TcCoe Idealize.ShloMosaic.Tactic Cert.ReferenceIdeal Cert.ReferenceIdeal.Value Cert.ReferenceIdeal.Gen

/-! ## The running sum -/

/-- A window of one column and 4096 rows lists its positions by row. -/
theorem column_position (n : Fin (⟨2, ![4096, 1]⟩ : Shape).numel) :
    (((⟨2, ![4096, 1]⟩ : Shape).rowMajor.symm n) 0).val = n.val ∧ (((⟨2, ![4096, 1]⟩ : Shape).rowMajor.symm n) 1).val = 0 := by
  have h := Shape.rowMajor_val_two ((⟨2, ![4096, 1]⟩ : Shape).rowMajor.symm n)
  rw [Equiv.apply_symm_apply] at h
  have h1 : (((⟨2, ![4096, 1]⟩ : Shape).rowMajor.symm n) 1).val < 1 := (((⟨2, ![4096, 1]⟩ : Shape).rowMajor.symm n) 1).isLt
  have h2 : (![4096, 1] : Fin 2 → ℕ) 1 = 1 := rfl
  rw [h2] at h
  omega

/-- The running sum of a column of naturals. -/
theorem column_sum (x : IVec S4096x8 32) (f : ℕ → ℕ) (e : Fin 8) (hx : ∀ i : Fin 4096, x (ix2 i e) = BitVec.ofNat 32 (f i.val))
    (init : IVec S_ 32) (hinit : ∀ i, init i = 0#32)
    (h : S4096x8.ReduceWindows (![4096, 1] : Fin 2 → ℕ) ![1, 1] ![4095, 0] ![0, 0] S4096x8) (hu : 0 < S_.numel) (j : Fin 4096) :
    Host.reduceWindow IntOp.addi ![4096, 1] ![1, 1] ![4095, 0] ![0, 0] x init h hu (ix2 j e)
      = BitVec.ofNat 32 ((List.range (j.val + 1)).map f).sum := by
  have hj := j.isLt
  unfold Host.reduceWindow
  refine (Routing.foldl_addi_ofNat _ _ (fun n => if 4095 ≤ j.val + n.val then f (j.val + n.val - 4095) else 0) (fun n _ => ?_) _ 0 (hinit _)).trans ?_
  · obtain ⟨p0, p1⟩ := column_position n
    dsimp only
    by_cases hc : 4095 ≤ j.val + n.val ∧ j.val + n.val - 4095 < 4096
    · rw [if_pos hc.1, dif_pos fun a => by
        match a with
        | ⟨0, _⟩ =>
          show 4095 ≤ j.val * 1 + (((⟨2, ![4096, 1]⟩ : Shape).rowMajor.symm n) 0).val
            ∧ j.val * 1 + (((⟨2, ![4096, 1]⟩ : Shape).rowMajor.symm n) 0).val - 4095 < 4096
          rw [p0]; omega
        | ⟨1, _⟩ =>
          show 0 ≤ e.val * 1 + (((⟨2, ![4096, 1]⟩ : Shape).rowMajor.symm n) 1).val
            ∧ e.val * 1 + (((⟨2, ![4096, 1]⟩ : Shape).rowMajor.symm n) 1).val - 0 < 8
          rw [p1]; omega]
      refine (congrArg x (funext fun a => Fin.ext ?_)).trans (hx ⟨j.val + n.val - 4095, hc.2⟩)
      match a with
      | ⟨0, _⟩ =>
        show j.val * 1 + (((⟨2, ![4096, 1]⟩ : Shape).rowMajor.symm n) 0).val - 4095 = j.val + n.val - 4095
        rw [p0]; omega
      | ⟨1, _⟩ =>
        show e.val * 1 + (((⟨2, ![4096, 1]⟩ : Shape).rowMajor.symm n) 1).val - 0 = e.val
        rw [p1]; omega
    · rw [dif_neg fun hin => hc (by
        have h0 := hin 0
        change 4095 ≤ j.val * 1 + (((⟨2, ![4096, 1]⟩ : Shape).rowMajor.symm n) 0).val
            ∧ j.val * 1 + (((⟨2, ![4096, 1]⟩ : Shape).rowMajor.symm n) 0).val - 4095 < 4096 at h0
        rw [p0] at h0; omega)]
      have hn : n.val < 4096 := lt_of_lt_of_eq n.isLt (by decide)
      rw [if_neg (by omega)]
      exact hinit _
  · rw [Nat.zero_add, Routing.map_finRange_val _ (fun w => if 4095 ≤ j.val + w then f (j.val + w - 4095) else 0)]
    rw [show (⟨2, ![4096, 1]⟩ : Shape).numel = 4095 + 1 by decide, Routing.sum_window f 4095 j.val (by omega)]

/-! ## The gathers -/

theorem word_toNat (e N : ℕ) (h : e ≤ N) (hN : N < 2 ^ 31) : min (BitVec.ofNat 32 e).toInt.toNat N = e := by
  rw [toInt_small e (by omega)]
  omega

/-- Row by row, the entry at the column that the index names. -/
theorem take_at {α : Type} (X : S4096x8.Idx → α) (idx : IVec S4096x1x1 32) (j : Fin 4096) (e : Fin 8)
    (h : idx (ix3 j 0 0) = BitVec.ofNat 32 e.val) :
    Host.gather gather_S4096x8_S4096x1x1_S4096x1_n_1_0_0_1_2_11 X idx (ix2 j 0) = X (ix2 j e) := by
  unfold Host.gather
  refine congrArg X (funext fun a => Fin.ext ?_)
  match a with
  | ⟨0, _⟩ =>
    show 0 + j.val + 0 = j.val
    omega
  | ⟨1, _⟩ =>
    have hs : ∀ c, gather_S4096x8_S4096x1x1_S4096x1_n_1_0_0_1_2_11.siIdx (ix2 j 0) c = ix3 j 0 0 := fun c => by
      funext b
      match b with
      | ⟨0, _⟩ => rfl
      | ⟨1, _⟩ => rfl
      | ⟨2, _⟩ => exact Fin.ext (by have := c.isLt; show c.val = 0; change c.val < 1 at this; omega)
    show min (idx (gather_S4096x8_S4096x1x1_S4096x1_n_1_0_0_1_2_11.siIdx (ix2 j 0) _)).toInt.toNat 7 + 0 + 0 = e.val
    rw [hs, h, word_toNat e.val 7 (by omega) (by decide)]
    rfl

/-- The lane row at an expert and a token. -/
theorem rows_at {α : Type} (X : S8x2048x1024.Idx → α) (idx : IVec S2048x2x2 32) (t : Fin 2048) (k : Fin 2) (d : Fin 1024) (e : Fin 8)
    (s : Fin 2048) (h0 : idx (ix3 t k 0) = BitVec.ofNat 32 e.val) (h1 : idx (ix3 t k 1) = BitVec.ofNat 32 s.val) :
    Host.gather gather_S8x2048x1024_S2048x2x2_S2048x2x1024_2_01_n_n_01_2_111024 X idx (ix3 t k d) = X (ix3 e s d) := by
  unfold Host.gather
  have hs : ∀ (c : Fin 2), gather_S8x2048x1024_S2048x2x2_S2048x2x1024_2_01_n_n_01_2_111024.siIdx (ix3 t k d) c = ix3 t k c := fun c => by
    funext b
    match b with
    | ⟨0, _⟩ => rfl
    | ⟨1, _⟩ => rfl
    | ⟨2, _⟩ => rfl
  refine congrArg X (funext fun a => Fin.ext ?_)
  match a with
  | ⟨0, _⟩ =>
    show min (idx (gather_S8x2048x1024_S2048x2x2_S2048x2x1024_2_01_n_n_01_2_111024.siIdx (ix3 t k d) (0 : Fin 2))).toInt.toNat 7 + 0 + 0 = e.val
    rw [hs, h0, word_toNat e.val 7 (by omega) (by decide)]
    rfl
  | ⟨1, _⟩ =>
    show min (idx (gather_S8x2048x1024_S2048x2x2_S2048x2x1024_2_01_n_n_01_2_111024.siIdx (ix3 t k d) (1 : Fin 2))).toInt.toNat 2047 + 0 + 0 = s.val
    rw [hs, h1, word_toNat s.val 2047 (by omega) (by decide)]
    rfl
  | ⟨2, _⟩ =>
    show 0 + 0 + d.val = d.val
    omega

end Cert.Moe

end
-- ==== Proof.RRank.lean ====
/- The reference's place of each choice in its expert's queue: the flattened choices, their running count, and the count taken at the chosen expert's column. -/
module

public import proofs.«01_k».proof.Proof.RRoute
public import proofs.«01_k».proof.Proof.ROps

@[expose] public section

set_option maxRecDepth 16384

noncomputable section

namespace Cert.Moe

open Idealize.ShloMosaic Idealize.ShloMosaic.TcCoe Idealize.ShloMosaic.Tactic Cert.ReferenceIdeal Cert.ReferenceIdeal.Value Cert.ReferenceIdeal.Gen

/-! ## Counting over the flattened choices -/

/-- Whether the flattened position `i` (a token's first choice at the even positions, its second at the odd) holds expert `e`. -/
def hits (I1 I2 : Fin 2048 → Fin 8) (e : Fin 8) (i : ℕ) : ℕ :=
  if h : i / 2 < 2048 then (if (if i % 2 = 0 then I1 ⟨i / 2, h⟩ else I2 ⟨i / 2, h⟩) = e then 1 else 0) else 0

theorem hits_even (I1 I2 : Fin 2048 → Fin 8) (e : Fin 8) (t : Fin 2048) : hits I1 I2 e (2 * t.val) = if I1 t = e then 1 else 0 := by
  have h : 2 * t.val / 2 = t.val := by omega
  have h' : 2 * t.val % 2 = 0 := by omega
  unfold hits
  rw [dif_pos (by omega), if_pos h']
  simp only [h, Fin.eta]

theorem hits_odd (I1 I2 : Fin 2048 → Fin 8) (e : Fin 8) (t : Fin 2048) : hits I1 I2 e (2 * t.val + 1) = if I2 t = e then 1 else 0 := by
  have h : (2 * t.val + 1) / 2 = t.val := by omega
  have h' : ¬ (2 * t.val + 1) % 2 = 0 := by omega
  unfold hits
  rw [dif_pos (by omega), if_neg h']
  simp only [h, Fin.eta]

/-- Before a token, the flattened choices hit an expert as often as earlier tokens took it. -/
theorem hits_before (I1 I2 : Fin 2048 → Fin 8) (hne : ∀ t, I2 t ≠ I1 t) (e : Fin 8) (t : ℕ) (ht : t ≤ 2048) :
    ((List.range (2 * t)).map (hits I1 I2 e)).sum = Nat.count (took I1 I2 e) t := by
  induction t with
  | zero => rfl
  | succ t ih =>
    have e0 := hits_even I1 I2 e ⟨t, by omega⟩
    have e1 := hits_odd I1 I2 e ⟨t, by omega⟩
    have htk : took I1 I2 e t ↔ (I1 ⟨t, by omega⟩ = e ∨ I2 ⟨t, by omega⟩ = e) :=
      ⟨fun ⟨_, h⟩ => h, fun h => ⟨by omega, h⟩⟩
    have hn := hne ⟨t, by omega⟩
    rw [show 2 * (t + 1) = 2 * t + 1 + 1 by ring, List.range_succ, List.range_succ, Nat.count_succ]
    simp only [List.map_append, List.sum_append, List.map_cons, List.map_nil, List.sum_cons, List.sum_nil, ih (by omega), e0, e1, htk]
    by_cases h1 : I1 ⟨t, by omega⟩ = e
    · have h2 : I2 ⟨t, by omega⟩ ≠ e := fun h => hn (h.trans h1.symm)
      simp [h1, h2]
    · simp [h1]

theorem word_pred (n : ℕ) : BitVec.ofNat 32 (n + 1) - 1#32 = BitVec.ofNat 32 n := by
  rw [BitVec.ofNat_add]
  simp

variable (V0 : Valuation τ sig (Elt Ideal)) (x : Vec Ideal Cert.KernelIdeal.S2048x1024 .f32) (g : Vec Ideal Cert.KernelIdeal.S8x1024 .f32)
variable (hx : ∀ (t : Fin 2048) (k : Fin 1024), (V0 (Proc.devRef .tc main_arg0) : Vec Ideal S1x2048x1024 .f32) (ix3 0 t k) = x (ix2 t k))
variable (hg : ∀ (e : Fin 8) (k : Fin 1024), (V0 (Proc.devRef .tc main_arg1) : Vec Ideal S8x1024 .f32) (ix2 e k) = g (ix2 e k))
variable (hl : ∀ t e, lg x g t e ≠ ⊥)

/-- The choice at a flattened position. -/
def flat (j : Fin 4096) : Fin 8 := chosen x g ⟨j.val / 2, by omega⟩ ⟨j.val % 2, by omega⟩

theorem flat_hits (e : Fin 8) (j : Fin 4096) : hits (I1 x g) (I2 x g) e j.val = if flat x g j = e then 1 else 0 := by
  unfold hits flat chosen
  rw [dif_pos (by omega)]
  have : ((⟨j.val % 2, by omega⟩ : Fin 2) = 0) ↔ j.val % 2 = 0 := by
    rw [Fin.ext_iff]
    rfl
  simp only [this]

include hx hg hl in
theorem choice_at (j : Fin 4096) : (res_main_v37 V0 : IVec S4096 32) (ix1 j) = BitVec.ofNat 32 (flat x g j).val := by
  have h := indices_at V0 x g hx hg hl
  unfold res_main_v37
  clean_types
  pointwise [h]
  rfl

include hx hg hl in
theorem column_at (j : Fin 4096) : (res_main_v42 V0 : IVec S4096x1 32) (ix2 j 0) = BitVec.ofNat 32 (flat x g j).val := by
  have h := choice_at V0 x g hx hg hl
  unfold res_main_v42
  clean_types
  pointwise [h]

theorem not_negative (n : ℕ) (h : n < 2 ^ 31) : IntOp.cmpi .slt (BitVec.ofNat 32 n) 0#32 = 0#1 := by
  unfold IntOp.cmpi
  have : (BitVec.ofNat 32 n).slt 0#32 = false := by
    rw [Bool.eq_false_iff]
    intro hc
    rw [BitVec.slt_iff_toInt_lt, toInt_small n h] at hc
    simp at hc
    omega
  rw [this]
  rfl

include hx hg hl in
theorem start_at (j : Fin 4096) : (res_main_call3_v5 V0 : IVec S4096x1x1 32) (ix3 j 0 0) = BitVec.ofNat 32 (flat x g j).val := by
  have h := column_at V0 x g hx hg hl
  unfold res_main_call3_v5
  clean_types
  pointwise [h]
  rw [not_negative _ (by have := (flat x g j).isLt; omega)]
  rfl

/-- The flattened choices' running count, less one. -/
def runningR : IVec S4096x8 32 :=
  subi (Host.reduceWindow IntOp.addi ![4096, 1] ![1, 1] ![4095, 0] ![0, 0] (extui 32 (cmpi .eq (broadcastInDim S4096x8 ![0, 1] bcast_S4096x1_S4096x8_0_1 (broadcastInDim S4096x1 ![0] bcast_S4096_S4096x1_0 (res_main_v37 V0))) (broadcastInDim S4096x8 ![0, 1] bcast_S1x8_S4096x8_0_1 (iotaInDim S1x8 32 1))) natLt_1_32) (broadcastInDim S_ ![] bcast_S_S_ (constantI S_ 32 0#32)) reduceWindows_S4096x8_S4096x8_w4096s1p4095_0_w1s1p0_0 h_S_) (broadcastInDim S4096x8 ![] bcast_S_S4096x8 (constantI S_ 32 1#32))

include hx hg hl in
theorem running_at (j : Fin 4096) (e : Fin 8) :
    runningR V0 (ix2 j e) = BitVec.ofNat 32 ((List.range (j.val + 1)).map (hits (I1 x g) (I2 x g) e)).sum - 1#32 := by
  have h := choice_at V0 x g hx hg hl
  unfold runningR
  refine congrArg₂ (· - ·) (column_sum _ (hits (I1 x g) (I2 x g) e) e (fun i => ?_) _ (fun i => rfl) _ _ j) rfl
  pointwise [h]
  rw [flat_hits, cmpi_eq_word]
  by_cases hc : flat x g i = e <;> simp [hc]

theorem fold_ones {ι : Type} [DecidableEq ι] (s : Finset ι) (f : ι → BitVec 1) (h : ∀ i, f i = 1#1) :
    Finset.fold IntOp.andi (1#1) f s = 1#1 := by
  induction s using Finset.induction_on with
  | empty => rfl
  | insert a s ha ih =>
    rw [Finset.fold_insert ha, ih, h]
    rfl

theorem in_bounds : ∀ e : Fin 8, IntOp.andi (IntOp.cmpi .sge (BitVec.ofNat 32 e.val) 0#32) (IntOp.cmpi .sle (BitVec.ofNat 32 e.val) 7#32) = 1#1 := by
  decide

/-- The count of each row at the row's own column, within the bounds check. -/
def guarded (r : IVec S4096x8 32) (s : IVec S4096x1x1 32) : IVec S4096 32 :=
  shapeCast _ (select (Host.reduce IntOp.andi (andi (cmpi .sge s (broadcastInDim S4096x1x1 ![] bcast_S_S4096x1x1 (constantI S_ 32 0#32))) (cmpi .sle s (broadcastInDim S4096x1x1 ![0, 1, 2] bcast_S1x1x1_S4096x1x1_0_1_2 (broadcastInDim S1x1x1 ![2] bcast_S1_S1x1x1_2 (constantI S1 32 7#32))))) (constantI S_ 1 1#1) reducesTo_S4096x1x1_S4096x1_d2 h_S_) (Host.gather gather_S4096x8_S4096x1x1_S4096x1_n_1_0_0_1_2_11 r s) (broadcastInDim S4096x1 ![] bcast_S_S4096x1 (constantI S_ 32 2147483648#32))) shapeCasts_S4096x1_S4096

theorem guarded_at (r : IVec S4096x8 32) (s : IVec S4096x1x1 32) (e : Fin 4096 → Fin 8)
    (h : ∀ j, s (ix3 j 0 0) = BitVec.ofNat 32 (e j).val) (j : Fin 4096) : guarded r s (ix1 j) = r (ix2 j (e j)) := by
  have ht := take_at r s j (e j) (h j)
  have hb : ∀ l : Fin 1, IntOp.andi (IntOp.cmpi .sge (s (ix3 j 0 l)) 0#32) (IntOp.cmpi .sle (s (ix3 j 0 l)) 7#32) = 1#1 := fun l => by
    rw [show l = 0 from Subsingleton.elim _ _, h]
    exact in_bounds _
  unfold guarded
  pointwise [ht]
  rw [fold_ones _ _ hb]
  rfl

/-- Each choice's place in its expert's queue, from the running count. -/
def placeR : IVec S4096 32 := guarded (runningR V0) (res_main_call3_v5 V0)

include hx hg hl in
theorem place_at (j : Fin 4096) : placeR V0 (ix1 j) = runningR V0 (ix2 j (flat x g j)) :=
  guarded_at (runningR V0) (res_main_call3_v5 V0) (flat x g) (start_at V0 x g hx hg hl) j

/-- A choice's place is its token's rank at the chosen expert. -/
def place (t : Fin 2048) (k : Fin 2) : ℕ := if k = 0 then n1 x g t else n2 x g t

include hx hg hl in
theorem placed (t : Fin 2048) (k : Fin 2) (j : Fin 4096) (hj : j.val = 2 * t.val + k.val) :
    placeR V0 (ix1 j) = BitVec.ofNat 32 (place x g t k) := by
  have hf : flat x g j = chosen x g t k := by
    unfold flat
    exact congrArg₂ (chosen x g) (Fin.ext (by show j.val / 2 = t.val; omega)) (Fin.ext (by show j.val % 2 = k.val; omega))
  have hb := fun e => hits_before (I1 x g) (I2 x g) (I_ne x g hl) e t.val (by omega)
  rw [place_at V0 x g hx hg hl, running_at V0 x g hx hg hl, hf, hj]
  match k with
  | ⟨0, _⟩ =>
    rw [show 2 * t.val + (⟨0, by omega⟩ : Fin 2).val + 1 = 2 * t.val + 1 from rfl, List.range_succ, List.map_append, List.sum_append, hb]
    simp only [List.map_cons, List.map_nil, List.sum_cons, List.sum_nil, hits_even]
    show BitVec.ofNat 32 (Nat.count (took (I1 x g) (I2 x g) (I1 x g t)) t.val + ((if I1 x g t = I1 x g t then 1 else 0) + 0)) - 1#32 = _
    rw [if_pos rfl, word_pred]
    rfl
  | ⟨1, _⟩ =>
    rw [show 2 * t.val + (⟨1, by omega⟩ : Fin 2).val + 1 = 2 * t.val + 1 + 1 from rfl, List.range_succ, List.range_succ,
      List.map_append, List.sum_append, List.map_append, List.sum_append, hb]
    simp only [List.map_cons, List.map_nil, List.sum_cons, List.sum_nil, hits_even, hits_odd]
    show BitVec.ofNat 32 (Nat.count (took (I1 x g) (I2 x g) (I2 x g t)) t.val + ((if I1 x g t = I2 x g t then 1 else 0) + 0)
      + ((if I2 x g t = I2 x g t then 1 else 0) + 0)) - 1#32 = _
    rw [if_pos rfl, if_neg (I_ne x g hl t).symm, word_pred]
    rfl

/-- Whether each choice lies within its expert's capacity, as a float. -/
def keepR : FVec Ideal S2048x2 .f32 :=
  uitofp .f32 (shapeCast S2048x2 (cmpi .slt (placeR V0) (broadcastInDim S4096 ![] bcast_S_S4096 (constantI S_ 32 320#32))) shapeCasts_S4096_S2048x2)

theorem rank_le (t : Fin 2048) (k : Fin 2) : place x g t k ≤ 2048 := by
  have hc : ∀ e, rank (I1 x g) (I2 x g) e t ≤ 2048 := fun e => (Nat.count_le (took (I1 x g) (I2 x g) e)).trans (by omega)
  unfold place
  split
  · exact hc _
  · exact hc _

theorem toInt_320 : (320#32 : BitVec 32).toInt = 320 := by decide

theorem below_capacity (n : ℕ) (h : n < 2 ^ 31) :
    (FloatOps.uitofp (F := Ideal) .f32 (IntOp.cmpi .slt (BitVec.ofNat 32 n) 320#32) : EReal) = if n < 320 then 1 else 0 := by
  have hs : IntOp.cmpi .slt (BitVec.ofNat 32 n) 320#32 = BitVec.ofBool (decide (n < 320)) := by
    unfold IntOp.cmpi
    congr 1
    rw [Bool.eq_iff_iff, BitVec.slt_iff_toInt_lt, toInt_small n h, decide_eq_true_iff]
    simp only [toInt_320]
    omega
  rw [hs]
  by_cases hn : n < 320
  · simp only [hn, decide_true, if_true]
    show (((((1 : BitVec 1)).toNat : ℝ)) : EReal) = 1
    simp
  · simp only [hn, decide_false, if_false]
    show (((((0 : BitVec 1)).toNat : ℝ)) : EReal) = 0
    simp

include hx hg hl in
theorem keep_at (t : Fin 2048) (k : Fin 2) : keepR V0 (ix2 t k) = if place x g t k < 320 then 1 else 0 := by
  have h := placed V0 x g hx hg hl t k
  unfold keepR
  pointwise []
  rw [h _ (by first | rfl | omega | (show _ = _; ring_nf))]
  exact below_capacity _ (by have := rank_le x g t k; omega)

end Cert.Moe

end
-- ==== Proof.RWeights.lean ====
/- The reference's weights read at an index: the softmax of the two chosen logits, zeroed past capacity and renormalized, which the replacement of infinities and of NaN leaves as they are. -/
module

public import proofs.«01_k».proof.Proof.RRank
public import proofs.«01_k».proof.Proof.KExpert

@[expose] public section

set_option maxRecDepth 16384

noncomputable section

namespace Cert.Moe

open Idealize.ShloMosaic Idealize.ShloMosaic.TcCoe Idealize.ShloMosaic.Tactic Cert.ReferenceIdeal Cert.ReferenceIdeal.Value Cert.ReferenceIdeal.Gen

/-! ## The weights are reals -/

theorem div_real (a b : ℝ) (hb : b ≠ 0) : Ideal.div ((a : ℝ) : EReal) ((b : ℝ) : EReal) = ((a / b : ℝ) : EReal) := by
  have h : ((b : ℝ) : EReal) ≠ 0 := by exact_mod_cast hb
  unfold Ideal.div
  rw [if_neg h, ← EReal.coe_inv, ← EReal.coe_mul, div_eq_mul_inv]

theorem exp_real (a : ℝ) : Ideal.exp ((a : ℝ) : EReal) = ((Real.exp a : ℝ) : EReal) := rfl

/-- One token's weights, over the reals. -/
theorem weights_real (l : Fin 8 → EReal) (hr : ∀ e, ∃ r : ℝ, l e = (r : EReal)) (n1 n2 : ℕ) :
    ∃ p q s : ℝ, part1 l n1 = (p : EReal) ∧ part2 l n2 = (q : EReal) ∧ total l n1 n2 = (s : EReal) ∧ 0 < s := by
  have hl : ∀ e, l e ≠ ⊥ := fun e => by
    obtain ⟨r, h⟩ := hr e
    rw [h]
    exact EReal.coe_ne_bot r
  obtain ⟨a, ha⟩ := hr (second l)
  obtain ⟨b, hb⟩ := hr (top l)
  obtain ⟨c, hc, he⟩ := c_eps
  have hd : drop2 l = ((Real.exp (a - b) : ℝ) : EReal) := by
    unfold drop2
    rw [rest_second hl, ha, hb, ← EReal.coe_sub, exp_real]
  have hpos := Real.exp_pos (a - b)
  have h1 : (1 : EReal) + drop2 l = ((1 + Real.exp (a - b) : ℝ) : EReal) := by
    rw [hd, EReal.coe_add]
    rfl
  have hp : part1 l n1 = ((if n1 < 320 then 1 / (1 + Real.exp (a - b)) else 0 : ℝ) : EReal) := by
    unfold part1
    rw [h1, show (1 : EReal) = ((1 : ℝ) : EReal) from rfl, div_real _ _ (by positivity)]
    split <;> rfl
  have hq : part2 l n2 = ((if n2 < 320 then Real.exp (a - b) / (1 + Real.exp (a - b)) else 0 : ℝ) : EReal) := by
    unfold part2
    rw [h1, hd, div_real _ _ (by positivity)]
    split <;> rfl
  refine ⟨(if n1 < 320 then 1 / (1 + Real.exp (a - b)) else 0),
    (if n2 < 320 then Real.exp (a - b) / (1 + Real.exp (a - b)) else 0),
    (if n1 < 320 then 1 / (1 + Real.exp (a - b)) else 0)
      + (if n2 < 320 then Real.exp (a - b) / (1 + Real.exp (a - b)) else 0) + c, hp, hq, ?_, ?_⟩
  · unfold total
    rw [hp, hq, he, ← EReal.coe_add, ← EReal.coe_add]
  · have p0 : (0 : ℝ) ≤ if n1 < 320 then 1 / (1 + Real.exp (a - b)) else 0 := by
      split
      · positivity
      · exact le_refl _
    have q0 : (0 : ℝ) ≤ if n2 < 320 then Real.exp (a - b) / (1 + Real.exp (a - b)) else 0 := by
      split
      · positivity
      · exact le_refl _
    linarith

/-! ## The reference's weights -/

variable (V0 : Valuation τ sig (Elt Ideal)) (x : Vec Ideal Cert.KernelIdeal.S2048x1024 .f32) (g : Vec Ideal Cert.KernelIdeal.S8x1024 .f32)
variable (hx : ∀ (t : Fin 2048) (k : Fin 1024), (V0 (Proc.devRef .tc main_arg0) : Vec Ideal S1x2048x1024 .f32) (ix3 0 t k) = x (ix2 t k))
variable (hg : ∀ (e : Fin 8) (k : Fin 1024), (V0 (Proc.devRef .tc main_arg1) : Vec Ideal S8x1024 .f32) (ix2 e k) = g (ix2 e k))
variable (hr : ∀ t e, ∃ r : ℝ, lg x g t e = (r : EReal))

include hr in
theorem real_ne (t : Fin 2048) (e : Fin 8) : lg x g t e ≠ ⊥ := by
  obtain ⟨r, h⟩ := hr t e
  rw [h]
  exact EReal.coe_ne_bot r

/-- The exponential of a chosen logit less the greatest. -/
def rise (t : Fin 2048) (k : Fin 2) : EReal := if k = 0 then 1 else drop2 (lg x g t)

include hx hg hr in
theorem rise_at (t : Fin 2048) (k : Fin 2) : (res_main_v9 V0 : FVec Ideal S2048x2 .f32) (ix2 t k) = rise x g t k := by
  have hl := real_ne x g hr
  have h := values_at V0 x g hx hg hl
  have hm : Finset.univ.fold max ⊥ (fun k => lg x g t (chosen x g t k)) = lg x g t (I1 x g t) := by
    have hle : lg x g t (I2 x g t) ≤ lg x g t (I1 x g t) := (top_isTop (lg x g t) (I2 x g t)).1
    rw [show (Finset.univ : Finset (Fin 2)) = {0, 1} from rfl, Finset.fold_insert (by decide), Finset.fold_singleton]
    show max (lg x g t (I1 x g t)) (max (lg x g t (I2 x g t)) ⊥) = _
    rw [max_eq_left bot_le, max_eq_left hle]
  unfold res_main_v9
  clean_types
  pointwise [h]
  rw [c_bot, max_eq_right bot_le, hm]
  unfold rise chosen
  split
  · obtain ⟨r, h⟩ := hr t (I1 x g t)
    rw [h, ← EReal.coe_sub, sub_self, exp_real, Real.exp_zero]
    rfl
  · unfold drop2
    rw [rest_second (hl t)]
    rfl

/-- The two weights before they are renormalized. -/
def part (t : Fin 2048) (k : Fin 2) : EReal := if k = 0 then part1 (lg x g t) (n1 x g t) else part2 (lg x g t) (n2 x g t)

include hx hg hr in
theorem part_at (t : Fin 2048) (k : Fin 2) : (res_main_v49 V0 : FVec Ideal S2048x2 .f32) (ix2 t k) = part x g t k := by
  have hl := real_ne x g hr
  have h := rise_at V0 x g hx hg hr
  have hk := keep_at V0 x g hx hg hl
  have hv : res_main_v49 V0 = mulf (Host.divf (res_main_v9 V0) (broadcastInDim S2048x2 ![0, 1] bcast_S2048x1_S2048x2_0_1
    (broadcastInDim S2048x1 ![0] bcast_S2048_S2048x1_0 (Host.reduceAdd (res_main_v9 V0) (constant S_ .f32 0x00000000#32)
      reducesTo_S2048x2_S2048_d1 h_S_)))) (keepR V0) := rfl
  rw [hv]
  clean_types
  pointwise [h, hk]
  rw [Fin.sum_univ_two]
  unfold part rise place part1 part2
  match k with
  | ⟨0, _⟩ =>
    show Ideal.div 1 (1 + drop2 (lg x g t)) * (if n1 x g t < 320 then 1 else 0) = if n1 x g t < 320 then Ideal.div 1 (1 + drop2 (lg x g t)) else 0
    split
    · rw [mul_one]
    · rw [mul_zero]
  | ⟨1, _⟩ =>
    show Ideal.div (drop2 (lg x g t)) (1 + drop2 (lg x g t)) * (if n2 x g t < 320 then 1 else 0)
      = if n2 x g t < 320 then Ideal.div (drop2 (lg x g t)) (1 + drop2 (lg x g t)) else 0
    split
    · rw [mul_one]
    · rw [mul_zero]

/-- The two renormalized weights. -/
def weight (t : Fin 2048) (k : Fin 2) : EReal := if k = 0 then w1 x g t else w2 x g t

include hx hg hr in
theorem quotient_at (t : Fin 2048) (k : Fin 2) : (res_main_v55 V0 : FVec Ideal S2048x2 .f32) (ix2 t k) = weight x g t k := by
  have h := part_at V0 x g hx hg hr
  unfold res_main_v55
  clean_types
  pointwise [h]
  rw [Fin.sum_univ_two]
  match k with
  | ⟨0, _⟩ => rfl
  | ⟨1, _⟩ => rfl

include hr in
theorem weight_real (t : Fin 2048) (k : Fin 2) : ∃ r : ℝ, weight x g t k = (r : EReal) := by
  obtain ⟨p, q, s, hp, hq, hs, h0⟩ := weights_real (lg x g t) (hr t) (n1 x g t) (n2 x g t)
  unfold weight w1 w2
  split
  · exact ⟨_, by rw [hp, hs, div_real _ _ h0.ne']⟩
  · exact ⟨_, by rw [hq, hs, div_real _ _ h0.ne']⟩

/-- The reference's weights. -/
def weightR : FVec Ideal S2048x2 .f32 :=
  select (cmpf .oeq (res_main_call4_v4 V0) (broadcastInDim S2048x2 ![] bcast_S_S2048x2 (constant S_ .f32 0xFF800000#32))) (broadcastInDim S2048x2 ![] bcast_S_S2048x2 (constant S_ .f32 0xFF7FFFFF#32)) (res_main_call4_v4 V0)

include hx hg hr in
theorem weight_at (t : Fin 2048) (k : Fin 2) : weightR V0 (ix2 t k) = weight x g t k := by
  have h := quotient_at V0 x g hx hg hr
  obtain ⟨r, hw⟩ := weight_real x g hr t k
  unfold weightR res_main_call4_v4 res_main_call4_v1
  clean_types
  pointwise [h]
  simp only [hw, c_bot, c_top]
  simp only [ne_eq, not_true_eq_false, if_false, EReal.coe_ne_top, EReal.coe_ne_bot]

end Cert.Moe

end
-- ==== Proof.ROut.lean ====
/- The reference's output read at an index: every expert's output of every token, the two chosen rows, and their weighted sum. -/
module

public import proofs.«01_k».proof.Proof.RWeights
public import proofs.«01_k».proof.Proof.KOut

@[expose] public section

set_option maxRecDepth 16384

noncomputable section

namespace Cert.Moe

open Idealize.ShloMosaic Idealize.ShloMosaic.TcCoe Idealize.ShloMosaic.Tactic Cert.ReferenceIdeal Cert.ReferenceIdeal.Value Cert.ReferenceIdeal.Gen

variable (V0 : Valuation τ sig (Elt Ideal)) (x : Vec Ideal Cert.KernelIdeal.S2048x1024 .f32) (g : Vec Ideal Cert.KernelIdeal.S8x1024 .f32)
variable (a b : Fin 8 → Fin 4096 → Fin 1024 → EReal) (w : Fin 8 → Fin 1024 → Fin 4096 → EReal)
variable (hx : ∀ (t : Fin 2048) (k : Fin 1024), (V0 (Proc.devRef .tc main_arg0) : Vec Ideal S1x2048x1024 .f32) (ix3 0 t k) = x (ix2 t k))
variable (hg : ∀ (e : Fin 8) (k : Fin 1024), (V0 (Proc.devRef .tc main_arg1) : Vec Ideal S8x1024 .f32) (ix2 e k) = g (ix2 e k))
variable (ha : ∀ (e : Fin 8) (h : Fin 4096) (k : Fin 1024), (V0 (Proc.devRef .tc main_arg2) : Vec Ideal S8x4096x1024 .f32) (ix3 e h k) = a e h k)
variable (hb : ∀ (e : Fin 8) (h : Fin 4096) (k : Fin 1024), (V0 (Proc.devRef .tc main_arg3) : Vec Ideal S8x4096x1024 .f32) (ix3 e h k) = b e h k)
variable (hw : ∀ (e : Fin 8) (d : Fin 1024) (h : Fin 4096), (V0 (Proc.devRef .tc main_arg4) : Vec Ideal S8x1024x4096 .f32) (ix3 e d h) = w e d h)
variable (hr : ∀ t e, ∃ r : ℝ, lg x g t e = (r : EReal))

include hx ha in
theorem gate_at (t : Fin 2048) (e : Fin 8) (h : Fin 4096) :
    (res_main_v58 V0 : FVec Ideal S2048x8x4096 .f32) (ix3 t e h) = ∑ k : Fin 1024, x (ix2 t k) * a e h k := by
  unfold res_main_v58
  clean_types
  pointwise [tokens_at V0 x hx, ha]

/-- Every expert's output of every token. -/
def expertsR : FVec Ideal S8x2048x1024 .f32 :=
  Host.dotGeneral (φ₁ := .f32) (φ₂ := .f32) dot_S2048x8x4096_S8x4096x1024_S8x2048x1024_2_1_0_2_1_0 none (mulf (mulf (res_main_v58 V0) (Host.divf (broadcastInDim S2048x8x4096 ![] bcast_S_S2048x8x4096 (constant S_ .f32 0x3F800000#32)) (addf (broadcastInDim S2048x8x4096 ![] bcast_S_S2048x8x4096 (constant S_ .f32 0x3F800000#32)) (Host.exp (Host.negf (res_main_v58 V0)))))) (Host.dotGeneral (φ₁ := .f32) (φ₂ := .f32) dot_S2048x1024_S8x1024x4096_S2048x8x4096_1_1_0_02_n_n none (res_main_v0 V0) (transpose S8x1024x4096 [0, 2, 1] (V0 (Proc.devRef .tc main_arg3)) transposes_S8x4096x1024_S8x1024x4096_0_2_1))) (transpose S8x4096x1024 [0, 2, 1] (V0 (Proc.devRef .tc main_arg4)) transposes_S8x1024x4096_S8x4096x1024_0_2_1)

include hx ha hb hw in
theorem experts_at (e : Fin 8) (t : Fin 2048) (d : Fin 1024) :
    expertsR V0 (ix3 e t d) = expertOut (fun k => x (ix2 t k)) a b w e d := by
  have h := gate_at V0 x a hx ha
  have ht := tokens_at V0 x hx
  unfold expertsR
  clean_types
  pointwise [h, ht, hb, hw]
  rfl

/-- Each choice's expert and token. -/
def pairsR : IVec S2048x2x2 32 :=
  concatenate S2048x2x2 2 [⟨S2048x2x1, (broadcastInDim S2048x2x1 ![0, 1] bcast_S2048x2_S2048x2x1_0_1 (select (cmpi .slt (res_main_indices V0) (broadcastInDim S2048x2 ![] bcast_S_S2048x2 (constantI S_ 32 0#32))) (addi (res_main_indices V0) (broadcastInDim S2048x2 ![] bcast_S_S2048x2 (constantI S_ 32 8#32))) (res_main_indices V0)))⟩, ⟨S2048x2x1, (broadcastInDim S2048x2x1 ![0, 1] bcast_S2048x2_S2048x2x1_0_1 (broadcastInDim S2048x2 ![0, 1] bcast_S2048x1_S2048x2_0_1 (select (cmpi .slt (res_main_v66 V0) (broadcastInDim S2048x1 ![] bcast_S_S2048x1 (constantI S_ 32 0#32))) (addi (res_main_v66 V0) (broadcastInDim S2048x1 ![] bcast_S_S2048x1 (constantI S_ 32 2048#32))) (res_main_v66 V0))))⟩] concatenates_S2048x2x1_S2048x2x1_S2048x2x2_d2

include hx hg hr in
theorem pairs_at (t : Fin 2048) (k : Fin 2) : pairsR V0 (ix3 t k 0) = BitVec.ofNat 32 (chosen x g t k).val
    ∧ pairsR V0 (ix3 t k 1) = BitVec.ofNat 32 t.val := by
  have h := indices_at V0 x g hx hg (real_ne x g hr)
  have hv : ∀ t : Fin 2048, (res_main_v66 V0 : IVec S2048x1 32) (ix2 t 0) = BitVec.ofNat 32 t.val := fun t => by
    unfold res_main_v66
    clean_types
    pointwise []
  constructor
  · unfold pairsR
    clean_types
    pointwise [h]
    rw [not_negative _ (by have := (chosen x g t k).isLt; omega)]
    rfl
  · unfold pairsR
    clean_types
    pointwise [hv]
    rw [not_negative _ (by omega)]
    rfl

/-- The reference's output. -/
def outR : FVec Ideal S1x2048x1024 .f32 :=
  shapeCast _ (Host.reduceAdd (mulf (broadcastInDim S2048x2x1024 ![0, 1, 2] bcast_S2048x2x1_S2048x2x1024_0_1_2 (broadcastInDim S2048x2x1 ![0, 1] bcast_S2048x2_S2048x2x1_0_1 (weightR V0))) (Host.gather gather_S8x2048x1024_S2048x2x2_S2048x2x1024_2_01_n_n_01_2_111024 (expertsR V0) (pairsR V0))) (constant S_ .f32 0x00000000#32) reducesTo_S2048x2x1024_S2048x1024_d1 h_S_) shapeCasts_S2048x1024_S1x2048x1024

include hx hg ha hb hw hr in
theorem outR_at (t : Fin 2048) (d : Fin 1024) : outR V0 (ix3 0 t d)
    = w1 x g t * expertOut (fun k => x (ix2 t k)) a b w (I1 x g t) d + w2 x g t * expertOut (fun k => x (ix2 t k)) a b w (I2 x g t) d := by
  have hw' := weight_at V0 x g hx hg hr
  have hp := fun (k : Fin 2) => rows_at (expertsR V0) (pairsR V0) t k d (chosen x g t k) t
    (pairs_at V0 x g hx hg hr t k).1 (pairs_at V0 x g hx hg hr t k).2
  have he := experts_at V0 x a b w hx ha hb hw
  unfold outR
  pointwise [hw', hp, he]
  rw [Fin.sum_univ_two]
  rfl

end Cert.Moe

end
-- ==== Proof.Finite.lean ====
/- The precondition read: the activations and the router's weight are finite, and so are the logits. -/
module

public import proofs.«01_k».proof.Pre_finite_router
public import proofs.«01_k».proof.Proof.KOut
public import Idealize.ShloMosaic.Lib.ReduceAll
public import Idealize.ShloMosaic.Lib.StableHlo.Predicate
public import Idealize.ShloMosaic.Lib.Pointwise

@[expose] public section

set_option maxRecDepth 16384

noncomputable section

namespace Cert.Moe

open Idealize.ShloMosaic

/-- The side conditions that the predicate's operations take. -/
theorem pre_facts : Cert.Pre_finite_router.Facts where
  bcast_S_S1x2048x1024 := by decide
  reducesTo_S1x2048x1024_S_d0_1_2 := by decide
  h_S_ := by decide
  bcast_S_S8x1024 := by decide
  reducesTo_S8x1024_S_d0_1 := by decide

attribute [local instance] pre_facts

theorem abs_finite (v : EReal) (h : FloatOps.cmpf (F := Ideal) (φ := .f32) .olt (FloatOps.absf (F := Ideal) (φ := .f32) v) (FloatOps.ofBits (F := Ideal) .f32 0x7F800000#32) = 1#1) :
    ∃ r : ℝ, v = (r : EReal) := by
  change BitVec.ofBool (decide (max v (-v) < Ideal.ofBits .f32 0x7F800000#32)) = 1#1 at h
  rw [StableHlo.Predicate.ofBool_eq_one_iff, decide_eq_true_iff, c_top, max_lt_iff] at h
  induction v using EReal.rec with
  | bot => exact absurd h.2 (by rw [EReal.neg_bot]; exact lt_irrefl _)
  | coe r => exact ⟨r, rfl⟩
  | top => exact absurd h.1 (lt_irrefl _)

/-- Both arrays of the router hold reals. -/
theorem router_finite (x : FVec Ideal Cert.Pre_finite_router.S1x2048x1024 .f32) (g : FVec Ideal Cert.Pre_finite_router.S8x1024 .f32)
    (a b : FVec Ideal Cert.Pre_finite_router.S8x4096x1024 .f32) (w : FVec Ideal Cert.Pre_finite_router.S8x1024x4096 .f32)
    (h : Cert.Pre_finite_router.fn (F := Ideal) x g a b w = fun _ => 1#1) :
    (∀ i, ∃ r : ℝ, x i = (r : EReal)) ∧ (∀ i, ∃ r : ℝ, g i = (r : EReal)) := by
  have h0 := congrFun h ix0
  unfold Cert.Pre_finite_router.fn at h0
  have h1 := IntOp.andi_eq_one.mp h0
  haveI : Subsingleton Cert.Pre_finite_router.S_.Idx := ⟨fun i j => funext fun a => a.elim0⟩
  exact ⟨fun i => abs_finite (x i) (Host.reduce_andi_all _ _ _ _ _ h1.1 i), fun i => abs_finite (g i) (Host.reduce_andi_all _ _ _ _ _ h1.2 i)⟩

theorem dot_real {n : ℕ} (p q : Fin n → EReal) (hp : ∀ i, ∃ r : ℝ, p i = (r : EReal)) (hq : ∀ i, ∃ r : ℝ, q i = (r : EReal)) :
    ∃ r : ℝ, ∑ i, p i * q i = (r : EReal) := by
  choose p' hp using hp
  choose q' hq using hq
  refine ⟨∑ i, p' i * q' i, ?_⟩
  simp only [hp, hq, ← EReal.coe_mul]
  exact (map_sum (⟨⟨(↑), rfl⟩, EReal.coe_add⟩ : ℝ →+ EReal) _ _).symm

theorem logits_real (x : Vec Ideal Cert.KernelIdeal.S2048x1024 .f32) (g : Vec Ideal Cert.KernelIdeal.S8x1024 .f32)
    (hx : ∀ t k, ∃ r : ℝ, x (ix2 t k) = (r : EReal)) (hg : ∀ e k, ∃ r : ℝ, g (ix2 e k) = (r : EReal)) (t : Fin 2048) (e : Fin 8) :
    ∃ r : ℝ, lg x g t e = (r : EReal) :=
  dot_real (fun d : Fin 1024 => x (ix2 t d)) (fun d => g (ix2 e d)) (hx t) (hg e)

end Cert.Moe

end
-- ==== Proof.Equal.lean ====
/- The kernel's results are the reference's: the output and the auxiliary loss, from arguments that agree and a finite router. -/
module

public import proofs.«01_k».proof.Proof.KRun
public import proofs.«01_k».proof.Proof.RAux
public import proofs.«01_k».proof.Proof.ROut
public import proofs.«01_k».proof.Proof.Finite

@[expose] public section

set_option maxRecDepth 16384

noncomputable section

namespace Cert.Moe

open Idealize.ShloMosaic Idealize.ShloMosaic.TcCoe Cert.KernelIdeal Cert.KernelIdeal.Gen Cert.KernelIdeal.Moe

/-! ## A dropped choice weighs nothing -/

theorem div_zero_left (s : ℝ) (hs : 0 < s) : Ideal.div 0 ((s : ℝ) : EReal) = 0 := by
  rw [show (0 : EReal) = ((0 : ℝ) : EReal) from rfl, div_real _ _ hs.ne', zero_div]

section
variable (x : Vec Ideal S2048x1024 .f32) (g : Vec Ideal S8x1024 .f32) (hr : ∀ t e, ∃ r : ℝ, lg x g t e = (r : EReal))
include hr

theorem dropped1 (t : Fin 2048) (h : ¬ n1 x g t < 320) : w1 x g t = 0 := by
  obtain ⟨p, q, s, hp, hq, hs, h0⟩ := weights_real (lg x g t) (hr t) (n1 x g t) (n2 x g t)
  unfold w1
  rw [hs, part1, if_neg h, div_zero_left s h0]

theorem dropped2 (t : Fin 2048) (h : ¬ n2 x g t < 320) : w2 x g t = 0 := by
  obtain ⟨p, q, s, hp, hq, hs, h0⟩ := weights_real (lg x g t) (hr t) (n1 x g t) (n2 x g t)
  unfold w2
  rw [hs, part2, if_neg h, div_zero_left s h0]
end

theorem pick_const (n : ℕ) (w y : EReal) (h : ¬ n < 320 → w = 0) : pick n w (fun _ => y) = w * y := by
  unfold pick
  split
  · rfl
  · rw [h ‹_›, zero_mul]

/-! ## The two results -/

variable (m : (ℓ : Loc nD τ sig) → Buf (Elt Ideal) ℓ) (c : Dev nD)
variable (V0 : Valuation Cert.ReferenceIdeal.τ Cert.ReferenceIdeal.sig (Elt Ideal))
variable (h0 : (V0 (Proc.devRef .tc Cert.ReferenceIdeal.main_arg0) : Vec Ideal S1x2048x1024 .f32) = m ((c.tc : Thread nD τ).loc main_arg0))
variable (h1 : (V0 (Proc.devRef .tc Cert.ReferenceIdeal.main_arg1) : Vec Ideal S8x1024 .f32) = m ((c.tc : Thread nD τ).loc main_arg1))
variable (h2 : (V0 (Proc.devRef .tc Cert.ReferenceIdeal.main_arg2) : Vec Ideal S8x4096x1024 .f32) = m ((c.tc : Thread nD τ).loc main_arg2))
variable (h3 : (V0 (Proc.devRef .tc Cert.ReferenceIdeal.main_arg3) : Vec Ideal S8x4096x1024 .f32) = m ((c.tc : Thread nD τ).loc main_arg3))
variable (h4 : (V0 (Proc.devRef .tc Cert.ReferenceIdeal.main_arg4) : Vec Ideal S8x1024x4096 .f32) = m ((c.tc : Thread nD τ).loc main_arg4))
variable (hr : ∀ t e, ∃ r : ℝ, lg (xv m c) (gv m c) t e = (r : EReal))

include h0 in
theorem same_x (t : Fin 2048) (k : Fin 1024) :
    (V0 (Proc.devRef .tc Cert.ReferenceIdeal.main_arg0) : Vec Ideal S1x2048x1024 .f32) (ix3 0 t k) = xv m c (ix2 t k) :=
  (congrFun h0 _).trans (xv_at m c t k).symm

include h1 in
theorem same_g (e : Fin 8) (k : Fin 1024) :
    (V0 (Proc.devRef .tc Cert.ReferenceIdeal.main_arg1) : Vec Ideal S8x1024 .f32) (ix2 e k) = gv m c (ix2 e k) :=
  (congrFun h1 _).trans (gv_at m c e k).symm

include h0 h1 hr in
theorem aux_equal : auxR V0 = shapeCast S_ (auxK (xv m c) (gv m c)) shapeCasts_S1x1_S_ := by
  funext i
  rw [show i = ix0 from funext fun a => a.elim0]
  have hk := auxK_at (xv m c) (gv m c)
  rw [auxR_at V0 (xv m c) (gv m c) (same_x m c V0 h0) (same_g m c V0 h1) (real_ne (xv m c) (gv m c) hr)]
  generalize auxK (xv m c) (gv m c) = u at hk ⊢
  pointwise []
  exact hk.symm

theorem shape_index (i : S1x2048x1024.Idx) : i = ix3 0 (i 1) (i 2) := by
  funext a
  match a with
  | ⟨0, hh⟩ => exact Fin.ext (by have h := (i ⟨0, hh⟩).isLt; change (i ⟨0, hh⟩).val < 1 at h; show (i ⟨0, hh⟩).val = 0; omega)
  | ⟨1, _⟩ => rfl
  | ⟨2, _⟩ => rfl

theorem cast_at (u : Vec Ideal S2048x1024 .f32) (t : Fin 2048) (d : Fin 1024) :
    shapeCast S1x2048x1024 u shapeCasts_S2048x1024_S1x2048x1024 (ix3 0 t d) = u (ix2 t d) := by
  pointwise []

include h0 h1 h2 h3 h4 hr in
theorem out_equal : outR V0 = shapeCast S1x2048x1024 (outS m c 31 tl.isLt : Vec Ideal S2048x1024 .f32) shapeCasts_S2048x1024_S1x2048x1024 := by
  have key : ∀ (t : Fin 2048) (d : Fin 1024), outR V0 (ix3 0 t d) = outS m c 31 tl.isLt (ix2 t d) := fun t d => by
    rw [outR_at V0 (xv m c) (gv m c) (A1 m c) (A3 m c) (A2 m c) (same_x m c V0 h0) (same_g m c V0 h1)
      (fun e h k => congrFun h2 (ix3 e h k)) (fun e h k => congrFun h3 (ix3 e h k)) (fun e d h => congrFun h4 (ix3 e d h)) hr]
    rw [out_last m c (real_ne (xv m c) (gv m c) hr) tl.isLt t d, pick_const _ _ _ (dropped1 (xv m c) (gv m c) hr t),
      pick_const _ _ _ (dropped2 (xv m c) (gv m c) hr t)]
  funext i
  rw [shape_index i]
  exact (key (i 1) (i 2)).trans (cast_at _ _ _).symm

end Cert.Moe

end
-- ==== Proof.lean ====
module

public import proofs.«01_k».proof.Defs
public import proofs.«01_k».proof.Proof.Gen.Kernel
public import proofs.«01_k».proof.Proof.Same
public import proofs.«01_k».proof.Proof.Gen.KernelIdeal
public import proofs.«01_k».proof.Proof.Gen.ReferenceIdeal
public import proofs.«01_k».proof.Proof.Gen.ReferenceIdeal.Run
public import proofs.«01_k».proof.Proof.Region
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference's frame: its run read at the arguments; it declares no semaphore. -/
theorem reference_frame : Cert.quiescent_ReferenceIdeal := fun m ρ _ =>
  (θ_run _ _ _).mono (fun r h => ⟨fun c => (h c).2.2, Idealize.ShloMosaic.sem_eq_zero_of_no_sems (by decide) r.2⟩)
    (Cert.ReferenceIdeal.Value.run (F := Ideal) m ρ)

/-- The precondition makes the router's logits real. -/
theorem router_real (m : (ℓ : Loc Cert.KernelIdeal.nD Cert.KernelIdeal.τ Cert.KernelIdeal.sig) → Buf (Elt Ideal) ℓ) (c : Dev Cert.KernelIdeal.nD)
    (h : Cert.Pre_KernelIdeal_finite_router (hPre_finite_router := Cert.Moe.pre_facts) m) (t : Fin 2048) (e : Fin 8) :
    ∃ r : ℝ, Cert.Moe.lg (Cert.KernelIdeal.Moe.xv m c) (Cert.KernelIdeal.Moe.gv m c) t e = (r : EReal) := by
  obtain ⟨hx, hg⟩ := Cert.Moe.router_finite _ _ _ _ _ (h c)
  refine Cert.Moe.logits_real _ _ (fun t k => ?_) (fun e k => ?_) t e
  · rw [Cert.Moe.xv_at]
    exact hx _
  · rw [Cert.Moe.gv_at]
    exact hg _

/-- Both results of the kernel are the reference's. -/
theorem results_equal : Cert.algebraic_KernelIdeal_ReferenceIdeal_pre_finite_router (hPre_finite_router := Cert.Moe.pre_facts) := by
  intro m ρ m' ρ' hpre hargs
  refine ⟨_, _, Cert.Moe.kernel_run m ρ, (θ_run _ _ _).mono (fun r h c => ?_) (Cert.ReferenceIdeal.Value.run (F := Ideal) m' ρ')⟩
  obtain ⟨h0, h1, h2, h3, h4⟩ := hargs c
  have hr := router_real m c hpre
  refine ⟨(h c).1.trans ?_, (h c).2.1.trans ?_, (h c).2.2⟩
  · exact Cert.Moe.out_equal m c (StableHlo.launchContents m' c) h0 h1 h2 h3 h4 hr
  · exact Cert.Moe.aux_equal m c (StableHlo.launchContents m' c) h0 h1 hr

theorem claim : Cert.Claim := ⟨Cert.Kernel.Gen.facts, Cert.KernelIdeal.Gen.facts, Cert.ReferenceIdeal.Gen.facts, Cert.Moe.pre_facts,
  fun m ρ _ => kernel_frame m ρ, fun m ρ _ => Cert.KernelIdeal.Moe.frame_quiescent m ρ,
  fun m ρ _ => Cert.KernelIdeal.Moe.frame_quiescent m ρ, reference_frame,
  fun m ρ _ => reference_frame m ρ trivial, trivial, results_equal⟩

end Cert.Proof

end
